-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![8192, 2048]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S2048 : Shape := ⟨1, ![2048]⟩
abbrev S2048x2048 : Shape := ⟨2, ![2048, 2048]⟩
abbrev S4x3x512x512 : Shape := ⟨4, ![4, 3, 512, 512]⟩
abbrev S512x512 : Shape := ⟨2, ![512, 512]⟩
abbrev S4x3 : Shape := ⟨2, ![4, 3]⟩
abbrev S4 : Shape := ⟨1, ![4]⟩
abbrev S_ : Shape := ⟨0, ![]⟩
abbrev S1x1 : Shape := ⟨2, ![1, 1]⟩
abbrev S1x1x512x512 : Shape := ⟨4, ![1, 1, 512, 512]⟩
abbrev S1x512x512 : Shape := ⟨3, ![1, 512, 512]⟩
abbrev S1 : Shape := ⟨1, ![1]⟩
abbrev S512x1024 : Shape := ⟨2, ![512, 1024]⟩
abbrev S256x512 : Shape := ⟨2, ![256, 512]⟩
abbrev S256x1024 : Shape := ⟨2, ![256, 1024]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S4x3x512x512, .f32⟩
  | .local _ .vmem, ⟨3, _⟩ => ⟨S512x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v36 : BitVec 32 := Scalar.muli v2 c8_i32_19
  let v37 : BitVec 32 := Scalar.addi c0_i32_20 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v38 : BitVec 32 := Scalar.muli v5 c4_i32_21
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_22 : BitVec 32 := 1#32
  let v40 : BitVec 32 := Scalar.muli v19 c1_i32_22
  let v41 : BitVec 32 := Scalar.addi v39 v40
  v41.toNat
def k0_dev2 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v42 : BitVec 32 := Scalar.muli v2 c8_i32_24
  let v43 : BitVec 32 := Scalar.addi c0_i32_25 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v44 : BitVec 32 := Scalar.muli v5 c4_i32_26
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_27 : BitVec 32 := 1#32
  let v46 : BitVec 32 := Scalar.muli v30 c1_i32_27
  let v47 : BitVec 32 := Scalar.addi v45 v46
  v47.toNat
def k0_dev3 (d0 : Dev nD) : Nat :=
  let c0_i32_30 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_16 v2
  let c8_i32_29 : BitVec 32 := 8#32
  let v48 : BitVec 32 := Scalar.muli v34 c8_i32_29
  let v49 : BitVec 32 := Scalar.addi c0_i32_30 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v50 : BitVec 32 := Scalar.muli v5 c4_i32_31
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v52 : BitVec 32 := Scalar.muli v8 c1_i32_32
  let v53 : BitVec 32 := Scalar.addi v51 v52
  v53.toNat
def k0_dev4 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v54 : BitVec 32 := Scalar.muli v2 c8_i32_34
  let v55 : BitVec 32 := Scalar.addi c0_i32_35 v54
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_17 v5
  let c4_i32_36 : BitVec 32 := 4#32
  let v56 : BitVec 32 := Scalar.muli v35 c4_i32_36
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v58 : BitVec 32 := Scalar.muli v8 c1_i32_37
  let v59 : BitVec 32 := Scalar.addi v57 v58
  v59.toNat
def k0_off1 (d0 : Dev nD) (c0_i32_46 : BitVec 32) : Fin 3 → Nat :=
  let c0_i32_47 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v60 : BitVec 32 := Scalar.subi v8 c1_i32_39
  let c4_i32_40 : BitVec 32 := 4#32
  let c0_i32_41 : BitVec 32 := 0#32
  let v61 : BitVec 1 := Scalar.cmpi .eq c4_i32_40 c0_i32_41
  let c1_i32_42 : BitVec 32 := 1#32
  let v62 : BitVec 32 := Scalar.select v61 c1_i32_42 c4_i32_40
  let v63 : BitVec 32 := Scalar.remsi v60 v62
  let c0_i32_44 : BitVec 32 := 0#32
  let v65 : BitVec 1 := Scalar.cmpi .slt v63 c0_i32_44
  let c0_i32_45 : BitVec 32 := 0#32
  let v66 : BitVec 1 := Scalar.cmpi .slt v62 c0_i32_45
  let v67 : BitVec 1 := Scalar.xori v65 v66
  let c0_i32_43 : BitVec 32 := 0#32
  let v64 : BitVec 1 := Scalar.cmpi .ne v63 c0_i32_43
  let v68 : BitVec 1 := Scalar.andi v67 v64
  let v69 : BitVec 32 := Scalar.addi v63 v62
  let v70 : BitVec 32 := Scalar.select v68 v69 v63
  let c2048_i32 : BitVec 32 := 2048#32
  let v71 : BitVec 32 := Scalar.muli v70 c2048_i32
  let v72 : BitVec 32 := Scalar.addi v71 c0_i32_46
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32 : BitVec 32 := 512#32
  let v73 : BitVec 32 := Scalar.muli v32 c512_i32
  ![0, v72.toNat, v73.toNat]
def k0_dev5 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v74 : BitVec 32 := Scalar.muli v2 c8_i32_54
  let v75 : BitVec 32 := Scalar.addi c0_i32_55 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v76 : BitVec 32 := Scalar.muli v5 c4_i32_56
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_57 : BitVec 32 := 1#32
  let v78 : BitVec 32 := Scalar.muli v30 c1_i32_57
  let v79 : BitVec 32 := Scalar.addi v77 v78
  v79.toNat
def k0_off2 (d0 : Dev nD) (c0_i32_60 : BitVec 32) (c0_i32_69 : BitVec 32) : Fin 3 → Nat :=
  let c0_i32_71 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v88 : BitVec 32 := Scalar.subi v8 c0_i32_60
  let c2_i32_61 : BitVec 32 := 2#32
  let v89 : BitVec 32 := Scalar.subi v88 c2_i32_61
  let c4_i32_62 : BitVec 32 := 4#32
  let c0_i32_63 : BitVec 32 := 0#32
  let v90 : BitVec 1 := Scalar.cmpi .eq c4_i32_62 c0_i32_63
  let c1_i32_64 : BitVec 32 := 1#32
  let v91 : BitVec 32 := Scalar.select v90 c1_i32_64 c4_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c2048_i32_68 : BitVec 32 := 2048#32
  let v100 : BitVec 32 := Scalar.muli v99 c2048_i32_68
  let v101 : BitVec 32 := Scalar.addi v100 c0_i32_69
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_70 : BitVec 32 := 512#32
  let v102 : BitVec 32 := Scalar.muli v32 c512_i32_70
  ![0, v101.toNat, v102.toNat]
def k0_dev6 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v120 : BitVec 32 := Scalar.muli v2 c8_i32_91
  let v121 : BitVec 32 := Scalar.addi c0_i32_92 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v122 : BitVec 32 := Scalar.muli v5 c4_i32_93
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_94 : BitVec 32 := 1#32
  let v124 : BitVec 32 := Scalar.muli v30 c1_i32_94
  let v125 : BitVec 32 := Scalar.addi v123 v124
  v125.toNat
def k0_dev7 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v162 : BitVec 32 := Scalar.muli v2 c8_i32_140
  let v163 : BitVec 32 := Scalar.addi c0_i32_141 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_142 : BitVec 32 := 4#32
  let v164 : BitVec 32 := Scalar.muli v5 c4_i32_142
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_143 : BitVec 32 := 1#32
  let v166 : BitVec 32 := Scalar.muli v30 c1_i32_143
  let v167 : BitVec 32 := Scalar.addi v165 v166
  v167.toNat
def k0_dev8 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v222 : BitVec 32 := Scalar.muli v2 c8_i32_205
  let v223 : BitVec 32 := Scalar.addi c0_i32_206 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_207 : BitVec 32 := 4#32
  let v224 : BitVec 32 := Scalar.muli v5 c4_i32_207
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_208 : BitVec 32 := 1#32
  let v226 : BitVec 32 := Scalar.muli v30 c1_i32_208
  let v227 : BitVec 32 := Scalar.addi v225 v226
  v227.toNat
def k0_dev9 (d0 : Dev nD) : Nat :=
  let c0_i32_278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_277 : BitVec 32 := 8#32
  let v282 : BitVec 32 := Scalar.muli v2 c8_i32_277
  let v283 : BitVec 32 := Scalar.addi c0_i32_278 v282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_279 : BitVec 32 := 4#32
  let v284 : BitVec 32 := Scalar.muli v5 c4_i32_279
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_280 : BitVec 32 := 1#32
  let v286 : BitVec 32 := Scalar.muli v30 c1_i32_280
  let v287 : BitVec 32 := Scalar.addi v285 v286
  v287.toNat
def k0_dev10 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v310 : BitVec 32 := Scalar.muli v2 c8_i32_301
  let v311 : BitVec 32 := Scalar.addi c0_i32_302 v310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v312 : BitVec 32 := Scalar.muli v5 c4_i32_303
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_304 : BitVec 32 := 1#32
  let v314 : BitVec 32 := Scalar.muli v30 c1_i32_304
  let v315 : BitVec 32 := Scalar.addi v313 v314
  v315.toNat
def k0_dev11 (d0 : Dev nD) : Nat :=
  let c0_i32_372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_371 : BitVec 32 := 8#32
  let v370 : BitVec 32 := Scalar.muli v2 c8_i32_371
  let v371 : BitVec 32 := Scalar.addi c0_i32_372 v370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v372 : BitVec 32 := Scalar.muli v5 c4_i32_373
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_374 : BitVec 32 := 1#32
  let v374 : BitVec 32 := Scalar.muli v30 c1_i32_374
  let v375 : BitVec 32 := Scalar.addi v373 v374
  v375.toNat
def k0_dev12 (d0 : Dev nD) : Nat :=
  let c0_i32_395 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_394 : BitVec 32 := 8#32
  let v398 : BitVec 32 := Scalar.muli v2 c8_i32_394
  let v399 : BitVec 32 := Scalar.addi c0_i32_395 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v400 : BitVec 32 := Scalar.muli v5 c4_i32_396
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_397 : BitVec 32 := 1#32
  let v402 : BitVec 32 := Scalar.muli v30 c1_i32_397
  let v403 : BitVec 32 := Scalar.addi v401 v402
  v403.toNat
def k0_off3 (d0 : Dev nD) : Fin 2 → Nat :=
  let c0_452 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_451 : BitVec 32 := 512#32
  let v455 : BitVec 32 := Scalar.muli v32 c512_i32_451
  let v456 : Index := Scalar.indexCast v455
  ![0, v456.toNat]
def k0_off4 (d0 : Dev nD) : Fin 2 → Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_453 : BitVec 32 := 512#32
  let v458 : BitVec 32 := Scalar.muli v32 c512_i32_453
  ![0, v458.toNat]
def k0_dev13 (d0 : Dev nD) : Nat :=
  let c0_i32_458 : BitVec 32 := 0#32
  let c1_i32_454 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v459 : BitVec 32 := Scalar.subi c1_i32_454 v2
  let c8_i32_457 : BitVec 32 := 8#32
  let v460 : BitVec 32 := Scalar.muli v459 c8_i32_457
  let v461 : BitVec 32 := Scalar.addi c0_i32_458 v460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v462 : BitVec 32 := Scalar.muli v5 c4_i32_459
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v464 : BitVec 32 := Scalar.muli v8 c1_i32_460
  let v465 : BitVec 32 := Scalar.addi v463 v464
  v465.toNat
def k0_off5 (d0 : Dev nD) : Fin 2 → Nat :=
  let c512 : Index := 512#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_515 : BitVec 32 := 512#32
  let v515 : BitVec 32 := Scalar.muli v32 c512_i32_515
  let v516 : Index := Scalar.indexCast v515
  ![512, v516.toNat]
def k0_off6 (d0 : Dev nD) : Fin 2 → Nat :=
  let c512_i32_524 : BitVec 32 := 512#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_516 : BitVec 32 := 512#32
  let v518 : BitVec 32 := Scalar.muli v32 c512_i32_516
  ![512, v518.toNat]
def k0_dev14 (d0 : Dev nD) : Nat :=
  let c0_i32_521 : BitVec 32 := 0#32
  let c1_i32_517 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_517 v2
  let c8_i32_520 : BitVec 32 := 8#32
  let v520 : BitVec 32 := Scalar.muli v519 c8_i32_520
  let v521 : BitVec 32 := Scalar.addi c0_i32_521 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v522 : BitVec 32 := Scalar.muli v5 c4_i32_522
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v524 : BitVec 32 := Scalar.muli v8 c1_i32_523
  let v525 : BitVec 32 := Scalar.addi v523 v524
  v525.toNat
def k0_dev15 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_584 : BitVec 32 := 8#32
  let v578 : BitVec 32 := Scalar.muli v2 c8_i32_584
  let v579 : BitVec 32 := Scalar.addi c0_i32_585 v578
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_586 : BitVec 32 := 4#32
  let v580 : BitVec 32 := Scalar.muli v5 c4_i32_586
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_587 : BitVec 32 := 1#32
  let v582 : BitVec 32 := Scalar.muli v30 c1_i32_587
  let v583 : BitVec 32 := Scalar.addi v581 v582
  v583.toNat
def k0_off7 (d0 : Dev nD) : Fin 2 → Nat :=
  let c0_i32_627 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_619 : BitVec 32 := 1024#32
  let v624 : BitVec 32 := Scalar.muli v5 c1024_i32_619
  ![0, v624.toNat]
def k0_dev16 (d0 : Dev nD) : Nat :=
  let c0_i32_624 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_623 : BitVec 32 := 8#32
  let v626 : BitVec 32 := Scalar.muli v2 c8_i32_623
  let v627 : BitVec 32 := Scalar.addi c0_i32_624 v626
  let c1_i32_620 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v625 : BitVec 32 := Scalar.subi c1_i32_620 v5
  let c4_i32_625 : BitVec 32 := 4#32
  let v628 : BitVec 32 := Scalar.muli v625 c4_i32_625
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v630 : BitVec 32 := Scalar.muli v8 c1_i32_626
  let v631 : BitVec 32 := Scalar.addi v629 v630
  v631.toNat
def k0_dev17 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v666 : BitVec 32 := Scalar.muli v2 c8_i32_672
  let v667 : BitVec 32 := Scalar.addi c0_i32_673 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v668 : BitVec 32 := Scalar.muli v5 c4_i32_674
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_675 : BitVec 32 := 1#32
  let v670 : BitVec 32 := Scalar.muli v30 c1_i32_675
  let v671 : BitVec 32 := Scalar.addi v669 v670
  v671.toNat
def k0_off8 (d0 : Dev nD) : Fin 2 → Nat :=
  let c512_i32_715 : BitVec 32 := 512#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_707 : BitVec 32 := 1024#32
  let v712 : BitVec 32 := Scalar.muli v5 c1024_i32_707
  ![512, v712.toNat]
def k0_dev18 (d0 : Dev nD) : Nat :=
  let c0_i32_712 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_711 : BitVec 32 := 8#32
  let v714 : BitVec 32 := Scalar.muli v2 c8_i32_711
  let v715 : BitVec 32 := Scalar.addi c0_i32_712 v714
  let c1_i32_708 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v713 : BitVec 32 := Scalar.subi c1_i32_708 v5
  let c4_i32_713 : BitVec 32 := 4#32
  let v716 : BitVec 32 := Scalar.muli v713 c4_i32_713
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_714 : BitVec 32 := 1#32
  let v718 : BitVec 32 := Scalar.muli v8 c1_i32_714
  let v719 : BitVec 32 := Scalar.addi v717 v718
  v719.toNat
def k0_dev19 (d0 : Dev nD) : Nat :=
  let c0_i32_768 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_767 : BitVec 32 := 8#32
  let v754 : BitVec 32 := Scalar.muli v2 c8_i32_767
  let v755 : BitVec 32 := Scalar.addi c0_i32_768 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v756 : BitVec 32 := Scalar.muli v5 c4_i32_769
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_770 : BitVec 32 := 1#32
  let v758 : BitVec 32 := Scalar.muli v30 c1_i32_770
  let v759 : BitVec 32 := Scalar.addi v757 v758
  v759.toNat
def k0_dev20 (d0 : Dev nD) : Nat :=
  let c0_i32_853 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_852 : BitVec 32 := 8#32
  let v828 : BitVec 32 := Scalar.muli v2 c8_i32_852
  let v829 : BitVec 32 := Scalar.addi c0_i32_853 v828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v830 : BitVec 32 := Scalar.muli v5 c4_i32_854
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_855 : BitVec 32 := 1#32
  let v832 : BitVec 32 := Scalar.muli v30 c1_i32_855
  let v833 : BitVec 32 := Scalar.addi v831 v832
  v833.toNat
def k0_off9 (d0 : Dev nD) : Fin 2 → Nat :=
  let c1024 : Index := 1024#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_925 : BitVec 32 := 512#32
  let v899 : BitVec 32 := Scalar.muli v32 c512_i32_925
  let v900 : Index := Scalar.indexCast v899
  ![1024, v900.toNat]
def k0_off10 (d0 : Dev nD) : Fin 2 → Nat :=
  let c1024_i32_934 : BitVec 32 := 1024#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_926 : BitVec 32 := 512#32
  let v902 : BitVec 32 := Scalar.muli v32 c512_i32_926
  ![1024, v902.toNat]
def k0_dev21 (d0 : Dev nD) : Nat :=
  let c0_i32_931 : BitVec 32 := 0#32
  let c1_i32_927 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v903 : BitVec 32 := Scalar.subi c1_i32_927 v2
  let c8_i32_930 : BitVec 32 := 8#32
  let v904 : BitVec 32 := Scalar.muli v903 c8_i32_930
  let v905 : BitVec 32 := Scalar.addi c0_i32_931 v904
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_932 : BitVec 32 := 4#32
  let v906 : BitVec 32 := Scalar.muli v5 c4_i32_932
  let v907 : BitVec 32 := Scalar.addi v905 v906
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_933 : BitVec 32 := 1#32
  let v908 : BitVec 32 := Scalar.muli v8 c1_i32_933
  let v909 : BitVec 32 := Scalar.addi v907 v908
  v909.toNat
def k0_off11 (d0 : Dev nD) : Fin 2 → Nat :=
  let c1024_i32_971 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_963 : BitVec 32 := 1024#32
  let v948 : BitVec 32 := Scalar.muli v5 c1024_i32_963
  ![1024, v948.toNat]
def k0_dev22 (d0 : Dev nD) : Nat :=
  let c0_i32_968 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_967 : BitVec 32 := 8#32
  let v950 : BitVec 32 := Scalar.muli v2 c8_i32_967
  let v951 : BitVec 32 := Scalar.addi c0_i32_968 v950
  let c1_i32_964 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v949 : BitVec 32 := Scalar.subi c1_i32_964 v5
  let c4_i32_969 : BitVec 32 := 4#32
  let v952 : BitVec 32 := Scalar.muli v949 c4_i32_969
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_970 : BitVec 32 := 1#32
  let v954 : BitVec 32 := Scalar.muli v8 c1_i32_970
  let v955 : BitVec 32 := Scalar.addi v953 v954
  v955.toNat
def k0_off12 (d0 : Dev nD) : Fin 2 → Nat :=
  let c1536 : Index := 1536#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_1011 : BitVec 32 := 512#32
  let v987 : BitVec 32 := Scalar.muli v32 c512_i32_1011
  let v988 : Index := Scalar.indexCast v987
  ![1536, v988.toNat]
def k0_off13 (d0 : Dev nD) : Fin 2 → Nat :=
  let c1536_i32_1020 : BitVec 32 := 1536#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_1012 : BitVec 32 := 512#32
  let v990 : BitVec 32 := Scalar.muli v32 c512_i32_1012
  ![1536, v990.toNat]
def k0_dev23 (d0 : Dev nD) : Nat :=
  let c0_i32_1017 : BitVec 32 := 0#32
  let c1_i32_1013 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v991 : BitVec 32 := Scalar.subi c1_i32_1013 v2
  let c8_i32_1016 : BitVec 32 := 8#32
  let v992 : BitVec 32 := Scalar.muli v991 c8_i32_1016
  let v993 : BitVec 32 := Scalar.addi c0_i32_1017 v992
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1018 : BitVec 32 := 4#32
  let v994 : BitVec 32 := Scalar.muli v5 c4_i32_1018
  let v995 : BitVec 32 := Scalar.addi v993 v994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1019 : BitVec 32 := 1#32
  let v996 : BitVec 32 := Scalar.muli v8 c1_i32_1019
  let v997 : BitVec 32 := Scalar.addi v995 v996
  v997.toNat
def k0_off14 (d0 : Dev nD) : Fin 2 → Nat :=
  let c1792_i32 : BitVec 32 := 1792#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c512_i32_1022 : BitVec 32 := 512#32
  let v1004 : BitVec 32 := Scalar.muli v32 c512_i32_1022
  ![1792, v1004.toNat]
def k0_dev24 (d0 : Dev nD) : Nat :=
  let c0_i32_1027 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1026 : BitVec 32 := 8#32
  let v1006 : BitVec 32 := Scalar.muli v2 c8_i32_1026
  let v1007 : BitVec 32 := Scalar.addi c0_i32_1027 v1006
  let c1_i32_1023 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1005 : BitVec 32 := Scalar.subi c1_i32_1023 v5
  let c4_i32_1028 : BitVec 32 := 4#32
  let v1008 : BitVec 32 := Scalar.muli v1005 c4_i32_1028
  let v1009 : BitVec 32 := Scalar.addi v1007 v1008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1029 : BitVec 32 := 1#32
  let v1010 : BitVec 32 := Scalar.muli v8 c1_i32_1029
  let v1011 : BitVec 32 := Scalar.addi v1009 v1010
  v1011.toNat
def k0_off15 (d0 : Dev nD) : Fin 2 → Nat :=
  let c1536_i32_1050 : BitVec 32 := 1536#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_1044 : BitVec 32 := 1024#32
  let v1032 : BitVec 32 := Scalar.muli v5 c1024_i32_1044
  ![1536, v1032.toNat]
def k0_dev25 (d0 : Dev nD) : Nat :=
  let c0_i32_1047 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1046 : BitVec 32 := 8#32
  let v1034 : BitVec 32 := Scalar.muli v2 c8_i32_1046
  let v1035 : BitVec 32 := Scalar.addi c0_i32_1047 v1034
  let c1_i32_1045 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1033 : BitVec 32 := Scalar.subi c1_i32_1045 v5
  let c4_i32_1048 : BitVec 32 := 4#32
  let v1036 : BitVec 32 := Scalar.muli v1033 c4_i32_1048
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v1038 : BitVec 32 := Scalar.muli v8 c1_i32_1049
  let v1039 : BitVec 32 := Scalar.addi v1037 v1038
  v1039.toNat
def k0_dev26 (d0 : Dev nD) : Nat :=
  let c0_i32_1068 : BitVec 32 := 0#32
  let c1_i32_1066 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1057 : BitVec 32 := Scalar.subi c1_i32_1066 v2
  let c8_i32_1067 : BitVec 32 := 8#32
  let v1058 : BitVec 32 := Scalar.muli v1057 c8_i32_1067
  let v1059 : BitVec 32 := Scalar.addi c0_i32_1068 v1058
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1069 : BitVec 32 := 4#32
  let v1060 : BitVec 32 := Scalar.muli v5 c4_i32_1069
  let v1061 : BitVec 32 := Scalar.addi v1059 v1060
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1070 : BitVec 32 := 1#32
  let v1062 : BitVec 32 := Scalar.muli v8 c1_i32_1070
  let v1063 : BitVec 32 := Scalar.addi v1061 v1062
  v1063.toNat
def k0_off16 (d0 : Dev nD) : Fin 2 → Nat :=
  let c1792_i32_1080 : BitVec 32 := 1792#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_15 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v31 : BitVec 32 := Scalar.muli c2_i32_15 v5
  let v32 : BitVec 32 := Scalar.addi v2 v31
  let c2_i32_1073 : BitVec 32 := 2#32
  let v1066 : BitVec 32 := Scalar.xori v32 c2_i32_1073
  let c512_i32_1074 : BitVec 32 := 512#32
  let v1067 : BitVec 32 := Scalar.muli v1066 c512_i32_1074
  ![1792, v1067.toNat]
def k0_dev27 (d0 : Dev nD) : Nat :=
  let c0_i32_1077 : BitVec 32 := 0#32
  let c1_i32_1075 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1068 : BitVec 32 := Scalar.subi c1_i32_1075 v2
  let c8_i32_1076 : BitVec 32 := 8#32
  let v1069 : BitVec 32 := Scalar.muli v1068 c8_i32_1076
  let v1070 : BitVec 32 := Scalar.addi c0_i32_1077 v1069
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1078 : BitVec 32 := 4#32
  let v1071 : BitVec 32 := Scalar.muli v5 c4_i32_1078
  let v1072 : BitVec 32 := Scalar.addi v1070 v1071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1079 : BitVec 32 := 1#32
  let v1073 : BitVec 32 := Scalar.muli v8 c1_i32_1079
  let v1074 : BitVec 32 := Scalar.addi v1072 v1073
  v1074.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x2048 : Shape := ⟨3, ![4, 8192, 2048]⟩
abbrev S2048 : Shape := ⟨1, ![2048]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
# The mesh, the transfers and what travels

The sixteen devices form a 2 × 2 × 4 mesh: device `8x + 4y + z`. The column a device reduces is `q = x + 2y`
(`devQ`), its place in the ring is `z` (`devZ`). Every remote copy of the kernel is one of 23 transfers (`T`): twelve
around the ring (`z p s`, part `p` in step `s`), four to the x peer (`x p`), four to the y peer (`y p`), and the three
forwarding copies `ya`, `xb1`, `xb2`. This file fixes their numbers, destinations and landing places, and the contents
each buffer holds when a transfer reads or writes it.
-/
module

public import proofs.«01_k».proof.Proof.Gen.KernelIdeal
public import proofs.«01_k».proof.Proof.Gen.KernelIdeal.Skeleton
public import Idealize.ShloMosaic.Lib.ValueIdx

@[expose] public section

set_option maxRecDepth 16384

noncomputable section

namespace Cert.RingProof

open Cert.KernelIdeal Cert.KernelIdeal.Gen
open Idealize.ShloMosaic Idealize.ShloMosaic.TcCoe Idealize.ShloMosaic.ValueIdx

variable {F : FTy → Type} [FloatOps F]

/-! ## Devices -/

set_option backward.proofsInPublic true in
/-- The column of blocks a device reduces. -/
def devQ (c : Dev nD) : Fin 4 := ⟨c.val / 8 + 2 * ((c.val / 4) % 2), by have : c.val < 16 := c.isLt; omega⟩
set_option backward.proofsInPublic true in
/-- A device's place in its ring. -/
def devZ (c : Dev nD) : Fin 4 := ⟨c.val % 4, Nat.mod_lt _ (by decide)⟩
set_option backward.proofsInPublic true in
/-- The device of column `q` at place `z`. -/
def mk (q z : Fin 4) : Dev nD := ⟨8 * (q.val % 2) + 4 * (q.val / 2) + z.val, by
  have := q.isLt; have := z.isLt; show _ < 16; omega⟩

/-- The column of the x peer. -/
def qx : Fin 4 → Fin 4 := ![1, 0, 3, 2]
/-- The column of the y peer. -/
def qy : Fin 4 → Fin 4 := ![2, 3, 0, 1]

def rgt (c : Dev nD) : Dev nD := mk (devQ c) (devZ c + 1)
def lft (c : Dev nD) : Dev nD := mk (devQ c) (devZ c + 3)
def xp (c : Dev nD) : Dev nD := mk (qx (devQ c)) (devZ c)
def yp (c : Dev nD) : Dev nD := mk (qy (devQ c)) (devZ c)

@[simp] theorem devQ_mk : ∀ q z : Fin 4, devQ (mk q z) = q := by decide
@[simp] theorem devZ_mk : ∀ q z : Fin 4, devZ (mk q z) = z := by decide
@[simp] theorem mk_dev : ∀ c : Dev nD, mk (devQ c) (devZ c) = c := by decide
theorem devQ_rgt : ∀ c, devQ (rgt c) = devQ c := by decide
theorem devQ_lft : ∀ c, devQ (lft c) = devQ c := by decide
theorem devZ_rgt : ∀ c, devZ (rgt c) = devZ c + 1 := by decide
theorem devZ_xp : ∀ c, devZ (xp c) = devZ c := by decide
theorem devZ_yp : ∀ c, devZ (yp c) = devZ c := by decide
theorem rgt_lft : ∀ c, rgt (lft c) = c := by decide
theorem lft_rgt : ∀ c, lft (rgt c) = c := by decide
theorem xp_xp : ∀ c, xp (xp c) = c := by decide
theorem yp_yp : ∀ c, yp (yp c) = c := by decide

/-! ## Transfers -/

/-- The 23 transfers of the kernel. -/
inductive T
  | z (p : Fin 4) (s : Fin 3)
  | x (p : Fin 4)
  | y (p : Fin 4)
  | ya | xb1 | xb2
  deriving DecidableEq, Fintype

/-- The order in which a device starts its transfers. -/
def rank : T → ℕ
  | .z p s => (![![0, 2, 4], ![1, 3, 6], ![5, 10, 14], ![7, 12, 15]] : Fin 4 → Fin 3 → ℕ) p s
  | .x p => (![8, 9, 16, 18] : Fin 4 → ℕ) p
  | .y p => (![11, 13, 17, 19] : Fin 4 → ℕ) p
  | .ya => 20 | .xb1 => 21 | .xb2 => 22

/-- The order in which a device waits for its transfers: first for its own transfer to have left, then for the
    one addressed to it to have arrived. -/
def wrank : T → ℕ
  | .z p s => (![![0, 2, 4], ![1, 3, 5], ![6, 10, 14], ![8, 12, 16]] : Fin 4 → Fin 3 → ℕ) p s
  | .x p => (![7, 9, 15, 17] : Fin 4 → ℕ) p
  | .y p => (![11, 13, 19, 18] : Fin 4 → ℕ) p
  | .ya => 20 | .xb1 => 21 | .xb2 => 22

theorem rank_inj : Function.Injective rank := by
  have h : ∀ a b : T, rank a = rank b → a = b := by decide
  exact fun a b => h a b
theorem wrank_inj : Function.Injective wrank := by
  have h : ∀ a b : T, wrank a = wrank b → a = b := by decide
  exact fun a b => h a b
theorem rank_lt : ∀ t, rank t < 23 := by decide
theorem wrank_lt : ∀ t, wrank t < 23 := by decide

/-- The receiver of a device's transfer. -/
def dD (t : T) (c : Dev nD) : Dev nD :=
  match t with
  | .z _ _ => rgt c
  | .x _ | .xb1 | .xb2 => xp c
  | .y _ | .ya => yp c
/-- The sender of the transfer a device receives. -/
def sD (t : T) (c : Dev nD) : Dev nD :=
  match t with
  | .z _ _ => lft c
  | .x _ | .xb1 | .xb2 => xp c
  | .y _ | .ya => yp c

theorem sD_dD : ∀ t c, sD t (dD t c) = c := by decide
theorem dD_sD : ∀ t c, dD t (sD t c) = c := by decide

/-- A transfer as a permutation of the devices, sender to receiver. -/
def dstE (t : T) : Dev nD ≃ Dev nD := ⟨dD t, sD t, sD_dD t, dD_sD t⟩

/-! ## The semaphores -/

/-- The semaphore a transfer's departure credits, by number. -/
def sNum : T → Fin 49
  | .z p s => (![![2, 3, 4], ![5, 6, 7], ![8, 9, 10], ![11, 12, 13]] : Fin 4 → Fin 3 → Fin 49) p s
  | .x p => (![26, 27, 28, 29] : Fin 4 → Fin 49) p
  | .y p => (![34, 35, 36, 37] : Fin 4 → Fin 49) p
  | .ya => 42 | .xb1 => 44 | .xb2 => 46
/-- The semaphore a transfer's arrival credits, by number. -/
def rNum : T → Fin 49
  | .z p s => (![![14, 15, 16], ![17, 18, 19], ![20, 21, 22], ![23, 24, 25]] : Fin 4 → Fin 3 → Fin 49) p s
  | .x p => (![30, 31, 32, 33] : Fin 4 → Fin 49) p
  | .y p => (![38, 39, 40, 41] : Fin 4 → Fin 49) p
  | .ya => 43 | .xb1 => 45 | .xb2 => 47

def sSem (t : T) : DmaSem sig := sNum t
def rSem (t : T) : DmaSem sig := rNum t
/-- The barrier semaphore and the one of the copies within a device. -/
abbrev barS : Sem sig := (SemArray.scalar (sig.barrier 0 rfl) : Sems sig S_).sem
def locS : DmaSem sig := (48 : Fin 49)

/-- The kinds of semaphore cells the devices share. -/
inductive CK
  | bar
  | s (t : T)
  | r (t : T)
  deriving DecidableEq, Fintype

/-- A kind's semaphore. -/
def csem : CK → SemLoc sig
  | .bar => .reg barS
  | .s t => .dma (sSem t)
  | .r t => .dma (rSem t)

/-- The kinds, listed. -/
def cks : List CK :=
  let ts : List T := [.z 0 0, .z 0 1, .z 0 2, .z 1 0, .z 1 1, .z 1 2, .z 2 0, .z 2 1, .z 2 2, .z 3 0, .z 3 1, .z 3 2,
    .x 0, .x 1, .x 2, .x 3, .y 0, .y 1, .y 2, .y 3, .ya, .xb1, .xb2]
  .bar :: (ts.map .s ++ ts.map .r)

/-- A semaphore's kind, where it has one. -/
def cls (sm : SemLoc sig) : Option CK := cks.find? fun k => decide (csem k = sm)

set_option maxHeartbeats 2000000 in
theorem cls_csem : ∀ k, cls (csem k) = some k := by decide +kernel
theorem csem_inj : Function.Injective csem := fun a b h => by
  have := cls_csem a; rw [h, cls_csem b] at this; exact (Option.some.inj this).symm

/-! ## The places of the output -/

/-- The band of output rows a row lies in: three of 512 rows, two of 256. -/
def band (r : ℕ) : Fin 5 := if r < 512 then 0 else if r < 1024 then 1 else if r < 1536 then 2 else if r < 1792 then 3 else 4

set_option backward.proofsInPublic true in
/-- The column block a column lies in. -/
def blk (j : ℕ) : Fin 4 := ⟨j / 512 % 4, Nat.mod_lt _ (by decide)⟩

/-- The output's cells whose band and column block is in `S`. -/
def osF (S : Finset (Fin 5 × Fin 4)) : Finset S2048x2048.Idx :=
  Finset.univ.filter fun i => (band (i 0).val, blk (i 1).val) ∈ S

theorem mem_osF {S : Finset (Fin 5 × Fin 4)} {i : S2048x2048.Idx} : i ∈ osF S ↔ (band (i 0).val, blk (i 1).val) ∈ S := by
  simp [osF]

theorem osF_union (S S' : Finset (Fin 5 × Fin 4)) : osF (S ∪ S') = osF S ∪ osF S' := by
  ext i; simp only [mem_osF, Finset.mem_union]
theorem osF_disjoint {S S' : Finset (Fin 5 × Fin 4)} (h : Disjoint S S') : Disjoint (osF S) (osF S') :=
  Finset.disjoint_left.mpr fun i h1 h2 => Finset.disjoint_left.mp h (mem_osF.mp h1) (mem_osF.mp h2)
theorem osF_univ : osF Finset.univ = Finset.univ := by ext i; simp [mem_osF]

/-- A rectangle of the output is the cells of the bands and the column blocks it spans. -/
theorem rect_osF {off size : Fin 2 → ℕ} {inb} (B : Finset (Fin 5)) (Q : Finset (Fin 4))
    (hr : ∀ r < 2048, (off 0 ≤ r ∧ r < off 0 + size 0) ↔ band r ∈ B)
    (hq : ∀ j < 2048, (off 1 ≤ j ∧ j < off 1 + size 1) ↔ blk j ∈ Q) :
    (Rect.unit (s := S2048x2048) off size inb).set = osF (B ×ˢ Q) := by
  ext i
  rw [Rect.mem_set_unit, mem_osF, Finset.mem_product, ← hr _ (i 0).isLt, ← hq _ (i 1).isLt]
  exact Fin.forall_fin_two

/-- Where in the receiver's output a transfer lands, by the sender's column. -/
def oR (t : T) (q : Fin 4) : Finset (Fin 5 × Fin 4) :=
  match t with
  | .z _ _ => ∅
  | .x p => {p.castSucc} ×ˢ {q}
  | .y p => if p = 3 then {4} ×ˢ {q} else {p.castSucc} ×ˢ {q, qx q}
  | .ya => {3} ×ˢ {q, qx q}
  | .xb1 => {4} ×ˢ {q}
  | .xb2 => {4} ×ˢ {qy q}

/-- Slot `(p, s)` of the landing buffer. -/
def cset (p : Fin 4) (s : Fin 3) : Finset S4x3x512x512.Idx := Finset.univ.filter fun i => (i 0).val = p.val ∧ (i 1).val = s.val
/-- Block `(4k + p, q)` of the operand. -/
def aset (k p q : Fin 4) : Finset S1x8192x2048.Idx :=
  Finset.univ.filter fun i => (i 1).val / 512 = 4 * k.val + p.val ∧ (i 2).val / 512 = q.val

theorem mem_cset {p : Fin 4} {s : Fin 3} {i : S4x3x512x512.Idx} : i ∈ cset p s ↔ (i 0).val = p.val ∧ (i 1).val = s.val := by simp [cset]
theorem mem_aset {k p q : Fin 4} {i : S1x8192x2048.Idx} :
    i ∈ aset k p q ↔ (i 1).val / 512 = 4 * k.val + p.val ∧ (i 2).val / 512 = q.val := by simp [aset]

theorem rect_cset {off : Fin 4 → ℕ} {inb} (p : Fin 4) (s : Fin 3) (ho : off = ![p.val, s.val, 0, 0]) :
    (Rect.unit (s := S4x3x512x512) off S1x1x512x512.size inb).set = cset p s := by
  subst ho; ext i
  rw [Rect.mem_set_unit, mem_cset]
  have h2 : (i 2).val < 512 := (i 2).isLt
  have h3 : (i 3).val < 512 := (i 3).isLt
  constructor
  · intro h
    have h0 : p.val ≤ (i 0).val ∧ (i 0).val < p.val + 1 := h 0
    have h1 : s.val ≤ (i 1).val ∧ (i 1).val < s.val + 1 := h 1
    omega
  · rintro ⟨e0, e1⟩ a
    match a with
    | 0 => show p.val ≤ (i 0).val ∧ (i 0).val < p.val + 1; rw [e0]; omega
    | 1 => show s.val ≤ (i 1).val ∧ (i 1).val < s.val + 1; rw [e1]; omega
    | 2 => show 0 ≤ (i 2).val ∧ (i 2).val < 0 + 512; omega
    | 3 => show 0 ≤ (i 3).val ∧ (i 3).val < 0 + 512; omega

theorem rect_aset {off : Fin 3 → ℕ} {inb} (k p q : Fin 4) (ho : off = ![0, 2048 * k.val + 512 * p.val, 512 * q.val]) :
    (Rect.unit (s := S1x8192x2048) off S1x512x512.size inb).set = aset k p q := by
  subst ho; ext i
  rw [Rect.mem_set_unit, mem_aset]
  have h0 : (i 0).val < 1 := (i 0).isLt
  constructor
  · intro h
    have h1 : 2048 * k.val + 512 * p.val ≤ (i 1).val ∧ (i 1).val < 2048 * k.val + 512 * p.val + 512 := h 1
    have h2 : 512 * q.val ≤ (i 2).val ∧ (i 2).val < 512 * q.val + 512 := h 2
    omega
  · rintro ⟨e0, e1⟩ a
    match a with
    | 0 => show 0 ≤ (i 0).val ∧ (i 0).val < 0 + 1; omega
    | 1 => show 2048 * k.val + 512 * p.val ≤ (i 1).val ∧ (i 1).val < 2048 * k.val + 512 * p.val + 512; omega
    | 2 => show 512 * q.val ≤ (i 2).val ∧ (i 2).val < 512 * q.val + 512; omega

/-! ## The contents -/

variable (m : (ℓ : Loc nD τ sig) → Buf (Elt F) ℓ)

abbrev aLoc (c : Dev nD) : Loc nD τ sig := (c : Thread nD τ).loc main_arg0
abbrev gLoc (c : Dev nD) : Loc nD τ sig := (c : Thread nD τ).loc main_arg1
abbrev oLoc (c : Dev nD) : Loc nD τ sig := (c : Thread nD τ).loc cc0_stg1_0
abbrev gsLoc (c : Dev nD) : Loc nD τ sig := (c : Thread nD τ).loc cc0_stg0_0
abbrev cLoc (c : Dev nD) : Loc nD τ sig := (c : Thread nD τ).loc cc0_scratch0
abbrev lLoc (c : Dev nD) : Loc nD τ sig := (c : Thread nD τ).loc cc0_scratch1

/-- The operand of a device, as launched. -/
def aV (c : Dev nD) : S1x8192x2048.Idx → F .f32 := m (aLoc c)
/-- The scale, as launched. -/
def gV (c : Dev nD) : S2048.Idx → F .f32 := m (gLoc c)

set_option backward.proofsInPublic true in
/-- Row `r` and column `j` of chunk `k` of device `(q, z)`'s operand within column block `q`. -/
def tv (q z k : Fin 4) (r j : ℕ) : F .f32 :=
  aV m (mk q z) (ix3 (⟨0, Nat.one_pos⟩ : Fin 1) (⟨(2048 * k.val + r) % 8192, Nat.mod_lt _ (by decide)⟩ : Fin 8192)
    (⟨(512 * q.val + j) % 2048, Nat.mod_lt _ (by decide)⟩ : Fin 2048))

set_option backward.proofsInPublic true in
/-- The chunk a device adds in ring step `s`. -/
def ck (z : Fin 4) (s : ℕ) : Fin 4 := ⟨(z.val + 14 - s) % 4, Nat.mod_lt _ (by decide)⟩

/-- What device `(q, z)` receives in ring step `s`: at first the sender's own chunk, then the sender's running sum. -/
def rv : ℕ → (q z : Fin 4) → (r j : ℕ) → F .f32
  | 0, q, z, r, j => tv m q (z + 3) (z + 2) r j
  | s + 1, q, z, r, j => FloatOps.addf (rv s q (z + 3) r j) (tv m q (z + 3) (ck (z + 3) s) r j)
/-- The running sum of device `(q, z)` in ring step `s`. -/
def av (s : ℕ) (q z : Fin 4) (r j : ℕ) : F .f32 := FloatOps.addf (rv m s q z r j) (tv m q z (ck z s) r j)

theorem rv_succ (s : ℕ) (q z : Fin 4) (r j : ℕ) : rv m (s + 1) q z r j = av m s q (z + 3) r j := rfl

/-- The landing buffer as received, and as added. -/
def CR (d : Dev nD) : S4x3x512x512.Idx → F .f32 := fun i => rv m (i 1).val (devQ d) (devZ d) (512 * (i 0).val + (i 2).val) (i 3).val
def CA (d : Dev nD) : S4x3x512x512.Idx → F .f32 := fun i => av m (i 1).val (devQ d) (devZ d) (512 * (i 0).val + (i 2).val) (i 3).val
/-- The local buffer after the copy of part `p` in step `s`. -/
def LV (d : Dev nD) (p : Fin 4) (s : Fin 3) : S512x512.Idx → F .f32 := fun i =>
  tv m (devQ d) (devZ d) (ck (devZ d) s.val) (512 * p.val + (i 0).val) (i 1).val
/-- The summed chunk of ring place `z`, all four columns. -/
def Y (z : Fin 4) : S2048x2048.Idx → F .f32 := fun i => av m 2 (blk (i 1).val) z (i 0).val ((i 1).val % 512)

set_option backward.proofsInPublic true in
/-- Rows `512 b … 512 b + 511` of the summed chunk. -/
def YB (z b : Fin 4) : S512x2048.Idx → F .f32 := fun j =>
  Y m z (ix2 (⟨512 * b.val + (j 0).val, by have := b.isLt; have h : (j 0).val < 512 := (j 0).isLt; omega⟩ : Fin 2048) (⟨(j 1).val, (j 1).isLt⟩ : Fin 2048))

set_option backward.proofsInPublic true in
/-- The normalised output of a device. -/
def NY (c : Dev nD) : S2048x2048.Idx → F .f32 := fun i =>
  k0_pay14 (F := F) (YB m (devZ c) ⟨(i 0).val / 512, by have h : (i 0).val < 2048 := (i 0).isLt; omega⟩) (gV m c)
    (ix2 (⟨(i 0).val % 512, Nat.mod_lt _ (by decide)⟩ : Fin 512) (⟨(i 1).val, (i 1).isLt⟩ : Fin 2048))

end Cert.RingProof

end
-- ==== Proof.Sched.lean ====
/-
# The schedule of the semaphore cells, and what a device holds between two operations

Every device has a barrier cell, a departure cell and an arrival cell per transfer, each used for one round. A barrier
cell's round has four duties, one per signalling neighbour; a neighbour's signal hands over the places of its buffers
this device's transfers will write. A departure cell's payload is the transfer's source, an arrival cell's the landed
data. `St c n w` is what device `c` holds after starting its first `n` transfers and making its first `w` waits: what it
still owes, and per transfer the tokens, credits and places its stage calls for.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the cells' rounds, the counters of copies within a device -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Cells and amounts -/

/-- A device's cell of a kind. -/
abbrev cell (c : Dev nD) (k : CK) : GSem nD τ sig := ((c : Thread nD τ), csem k)

/-- What a transfer credits on both of its semaphores. -/
def N : T → ℕ
  | .z _ _ => (cc0_scratch0 : Ref sig .tc).dmaCredit S512x512 .f32
  | .x p => if p = 3 then (cc0_stg1_0 : Ref sig .tc).dmaCredit S256x512 .f32 else (cc0_stg1_0 : Ref sig .tc).dmaCredit S512x512 .f32
  | .y p => if p = 3 then (cc0_stg1_0 : Ref sig .tc).dmaCredit S256x512 .f32 else (cc0_stg1_0 : Ref sig .tc).dmaCredit S512x1024 .f32
  | .ya => (cc0_stg1_0 : Ref sig .tc).dmaCredit S256x1024 .f32
  | .xb1 | .xb2 => (cc0_stg1_0 : Ref sig .tc).dmaCredit S256x512 .f32

theorem N_pos (t : T) : 0 < N t := by
  have h (b : Ref sig .tc) (s : Shape) (hs : ∀ i, 0 < s.size i) : 0 < b.dmaCredit s .f32 :=
    sig.dmaCredit_pos _ _ _ s _ (Finset.prod_pos fun i _ => hs i)
  have h1 := h cc0_scratch0 S512x512 (by decide)
  have h2 := h cc0_stg1_0 S512x512 (by decide)
  have h3 := h cc0_stg1_0 S256x512 (by decide)
  have h4 := h cc0_stg1_0 S512x1024 (by decide)
  have h5 := h cc0_stg1_0 S256x1024 (by decide)
  cases t with
  | z p s => exact h1
  | x p => show 0 < ite _ _ _; split <;> assumption
  | y p => show 0 < ite _ _ _; split <;> assumption
  | ya => exact h5
  | xb1 => exact h3
  | xb2 => exact h3

/-! ## Payloads -/

def sendPay (t : T) (c : Dev nD) : sProp 𝕄 :=
  match t with
  | .z p s => if s = 0 then aLoc c ↦[aset (devZ c + 3) p (devQ c)]{fullShare} (aV m c : Buf (Elt F) (aLoc c))
      else cLoc c ↦[cset p (s - 1)]{fullShare} (CA m c : Buf (Elt F) (cLoc c))
  | t => oLoc c ↦[osF (oR t (devQ c))]{fullShare} (Y m (devZ c) : Buf (Elt F) (oLoc c))

def recvPay (t : T) (c : Dev nD) : sProp 𝕄 :=
  match t with
  | .z p s => cLoc c ↦[cset p s]{fullShare} (CR m c : Buf (Elt F) (cLoc c))
  | t => oLoc c ↦[osF (oR t (devQ (sD t c)))]{fullShare} (Y m (devZ c) : Buf (Elt F) (oLoc c))

/-- Where a transfer lands in the receiver's buffers, at any contents. -/
def dstAny (t : T) (c : Dev nD) : sProp 𝕄 :=
  match t with
  | .z p s => iprop(∃ f : Buf (Elt F) (cLoc (rgt c)), cLoc (rgt c) ↦[cset p s]{fullShare} f)
  | t => iprop(∃ f : Buf (Elt F) (oLoc (dD t c)), oLoc (dD t c) ↦[osF (oR t (devQ c))]{fullShare} f)

/-- The neighbour whose signal hands a transfer's landing place over, by its duty's name. -/
def cl : T → Fin 4
  | .z _ _ => 1
  | .x _ | .xb1 | .xb2 => 2
  | .y _ | .ya => 3

def barPay (j : Fin 4) (c : Dev nD) : sProp 𝕄 := bigSep (Finset.univ.filter fun t => cl t = j) fun t => dstAny t c

instance sendPay_storable (t : T) (c : Dev nD) : BI.Storable (upEmb : UEmb _ 𝕄) (sendPay (F := F) m t c) := by
  unfold sendPay; cases t <;> (try dsimp only) <;> (try split) <;> infer_instance
instance recvPay_storable (t : T) (c : Dev nD) : BI.Storable (upEmb : UEmb _ 𝕄) (recvPay (F := F) m t c) := by
  unfold recvPay; cases t <;> infer_instance
instance dstAny_storable (t : T) (c : Dev nD) : BI.Storable (upEmb : UEmb _ 𝕄) (dstAny (F := F) t c) := by
  unfold dstAny; cases t <;> infer_instance
instance barPay_storable (j : Fin 4) (c : Dev nD) : BI.Storable (upEmb : UEmb _ 𝕄) (barPay (F := F) j c) := by
  unfold barPay; infer_instance

/-! ## The schedule -/

/-- The duties of a kind's one round. -/
def kDuties : Option CK → Finset (Fin 4)
  | some .bar => Finset.univ
  | some (.s _) | some (.r _) => {0}
  | none => ∅
/-- The units a duty of a kind contributes. -/
def kAmount : Option CK → ℕ
  | some (.s t) | some (.r t) => N t
  | _ => 1
/-- What a duty of a kind hands over. -/
def kPay (k : Option CK) (c : Dev nD) (d : Fin 4) : sProp 𝕄 :=
  match k with
  | some .bar => barPay d c
  | some (.s t) => sendPay m t c
  | some (.r t) => recvPay m t c
  | none => iprop(emp)

instance kPay_storable (k : Option CK) (c : Dev nD) (d : Fin 4) : BI.Storable (upEmb : UEmb _ 𝕄) (kPay (F := F) m k c d) := by
  unfold kPay; split <;> infer_instance

def rd : Rounds.Schedule (GSem nD τ sig) (Fin 4) 𝕄 where
  duties g r := if r = 0 ∧ g.1.2 = .tc then kDuties (cls g.2) else ∅
  unitless _ := False
  amount g _ _ := kAmount (cls g.2)
  payload g _ d := kPay m (cls g.2) g.1.1 d
  amount_pos g _ _ _ := by
    unfold kAmount; split
    · exact N_pos _
    · exact N_pos _
    · exact Nat.one_pos

instance rd_payload_storable (g : GSem nD τ sig) (r : ℕ) (d : Fin 4) :
    BI.Storable (upEmb : UEmb _ 𝕄) ((rd (F := F) m).payload g r d) := kPay_storable m _ _ _

theorem rd_duties (c : Dev nD) (k : CK) : (rd m).duties (cell c k) 0 = kDuties (some k) := by
  show (if 0 = 0 ∧ (cell c k).1.2 = .tc then kDuties (cls (csem k)) else ∅) = _
  rw [if_pos ⟨rfl, rfl⟩, cls_csem]
theorem rd_later (g : GSem nD τ sig) : ∀ r, 1 ≤ r → (rd (F := F) m).duties g r = ∅ :=
  fun r hr => if_neg fun h => by omega
theorem rd_amount (c : Dev nD) (k : CK) (d : Fin 4) : (rd m).amount (cell c k) 0 d = kAmount (some k) := by
  show kAmount (cls (csem k)) = _; rw [cls_csem]
theorem rd_payload (c : Dev nD) (k : CK) (d : Fin 4) : (rd m).payload (cell c k) 0 d = kPay m (some k) c d := by
  show kPay m (cls (csem k)) c d = _; rw [cls_csem]
theorem rd_expect_s (c : Dev nD) (t : T) : (rd m).expect (cell c (.s t)) 0 = N t := by
  unfold Schedule.expect Schedule.amountOf; rw [rd_duties, kDuties, Finset.sum_singleton, rd_amount]; rfl
theorem rd_expect_r (c : Dev nD) (t : T) : (rd m).expect (cell c (.r t)) 0 = N t := by
  unfold Schedule.expect Schedule.amountOf; rw [rd_duties, kDuties, Finset.sum_singleton, rd_amount]; rfl
theorem rd_expect_bar (c : Dev nD) : (rd m).expect (cell c .bar) 0 = 4 := by
  unfold Schedule.expect Schedule.amountOf
  rw [rd_duties, Finset.sum_congr rfl fun d _ => rd_amount m c .bar d, Finset.sum_const]; rfl

theorem rest_s (c : Dev nD) (t : T) :
    bigSep ((rd m).duties (cell c (.s t)) 0 \ ∅) (fun d => (rd m).payload (cell c (.s t)) 0 d) = sendPay m t c := by
  rw [Finset.sdiff_empty, rd_duties, kDuties, bigSep_singleton, rd_payload]; rfl
theorem rest_r (c : Dev nD) (t : T) :
    bigSep ((rd m).duties (cell c (.r t)) 0 \ ∅) (fun d => (rd m).payload (cell c (.r t)) 0 d) = recvPay m t c := by
  rw [Finset.sdiff_empty, rd_duties, kDuties, bigSep_singleton, rd_payload]; rfl
/-- All four signals together hand over every landing place. -/
theorem rest_bar (c : Dev nD) :
    bigSep ((rd m).duties (cell c .bar) 0 \ ∅) (fun d => (rd m).payload (cell c .bar) 0 d) ⊢ bigSep Finset.univ fun t => dstAny (F := F) t c := by
  have e : (Finset.univ : Finset T) = (Finset.univ.filter fun t => cl t = 0) ∪ ((Finset.univ.filter fun t => cl t = 1)
      ∪ ((Finset.univ.filter fun t => cl t = 2) ∪ (Finset.univ.filter fun t => cl t = 3))) := by decide
  rw [Finset.sdiff_empty, rd_duties, kDuties, bigSep_congr fun d _ => rd_payload m c .bar d,
    bigSep_univ_eq_bigSepL [0, 1, 2, 3] (by decide) (by decide), bigSepL_cons_cons, bigSepL_cons_cons, bigSepL_cons_cons, bigSepL_singleton, e,
    bigSep_union (by decide), bigSep_union (by decide), bigSep_union (by decide)]
  exact .rfl

/-! ## What a device owes, and the levels -/

/-- The arrivals a device still owes after starting `n` transfers. -/
def owe (n : ℕ) (c : Dev nD) : CellTallies nD τ sig Unit :=
  ∑ t ∈ Finset.univ.filter (fun t => n ≤ rank t), tallyAt (cell (dD t c) (.r t)) () (N t)

theorem owe_peel (t : T) (c : Dev nD) {n : ℕ} (h : rank t = n) : owe n c = owe (n + 1) c + tallyAt (cell (dD t c) (.r t)) () (N t) := by
  unfold owe
  have e : (Finset.univ.filter fun t' => n ≤ rank t') = insert t (Finset.univ.filter fun t' => n + 1 ≤ rank t') := by
    ext t'
    simp only [Finset.mem_filter, Finset.mem_univ, true_and, Finset.mem_insert]
    constructor
    · intro h'
      by_cases e : rank t' = n
      · exact .inl (rank_inj (e.trans h.symm))
      · exact .inr (by omega)
    · rintro (rfl | h') <;> omega
  rw [e, Finset.sum_insert (by simp [h]), add_comm]

theorem owe_end (c : Dev nD) : owe 23 c = 0 := by
  unfold owe
  rw [Finset.filter_false_of_mem fun t _ => by have := rank_lt t; omega, Finset.sum_empty]

theorem owe_pos {n : ℕ} {c : Dev nD} {g : GSem nD τ sig} {u : Unit} (h : 0 < owe n c g u) :
    ∃ t, n ≤ rank t ∧ g = cell (dD t c) (.r t) := by
  unfold owe at h
  rw [Finset.sum_apply, Finsupp.finset_sum_apply] at h
  obtain ⟨t, ht, hne⟩ := Finset.exists_ne_zero_of_sum_ne_zero h.ne'
  refine ⟨t, (Finset.mem_filter.mp ht).2, ?_⟩
  rw [tallyAt_apply] at hne
  by_contra hg
  exact hne (if_neg fun h' => hg h'.1)

def L (g : GSem nD τ sig) : Finset Unit := if g.1.2 = .tc then {()} else ∅
/-- A kind's level: an arrival's above the barrier's, in the order of the transfers; every other semaphore's lowest. -/
def kLv : Option CK → ℕ
  | some .bar => 1
  | some (.r t) => rank t + 2
  | _ => 0
def lv (g : GSem nD τ sig) (_ : Unit) : ℕ := kLv (cls g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = kLv (some k) := by show kLv (cls (csem k)) = _; rw [cls_csem]

/-- A device may wait on a semaphore whose level is below that of every arrival it still owes. -/
theorem mayWait (c : Dev nD) (sm : SemLoc sig) (n : ℕ) (h : ∀ t, n ≤ rank t → kLv (cls sm) < rank t + 2) :
    (levAts L lv : sProp 𝕄) ⊢ MayWait (c : Thread nD τ) sm () (owe n c) := by
  refine MayOwe.of_cut (L := L) (lev := lv) (kLv (cls sm)) (fun p hp => by rw [Finset.mem_singleton.mp hp, L_tc]; exact Finset.mem_singleton_self _)
    (fun g u hg => by obtain ⟨t, -, rfl⟩ := owe_pos hg; rw [L_tc]; exact Finset.mem_singleton_self _)
    (fun p hp => by rw [Finset.mem_singleton.mp hp]; exact le_rfl)
    (fun g u hg => by obtain ⟨t, ht, rfl⟩ := owe_pos hg; rw [lv_cell]; exact h t ht)

/-! ## The facts every device may consult -/

abbrev kcell (ck : Dev nD × CK) : GSem nD τ sig := cell ck.1 ck.2

def records (K : Dev nD × CK → ℕ) : sProp 𝕄 :=
  bigSep Finset.univ fun ck : Dev nD × CK => iprop(cellInv ER (rd m) (K ck) (kcell ck) ∗ reached ER (kcell ck) 0)
instance records_persistent (K : Dev nD × CK → ℕ) : BI.Persistent (records m K) := by unfold records; infer_instance

/-- The invariants of all cells, that each has reached its round, and the levels. -/
def Inv (K : Dev nD × CK → ℕ) : sProp 𝕄 := iprop(records m K ∗ levAts L lv)
instance Inv_persistent (K : Dev nD × CK → ℕ) : BI.Persistent (Inv m K) := by unfold Inv; infer_instance

theorem Inv_cell (K : Dev nD × CK → ℕ) (c : Dev nD) (k : CK) :
    Inv m K ⊢ iprop(cellInv ER (rd m) (K (c, k)) (cell c k) ∗ reached ER (cell c k) 0) := by
  unfold Inv records
  exact sep_elim_left.trans (bigSep_elim (Φ := fun ck : Dev nD × CK => iprop(cellInv ER (rd m) (K ck) (kcell ck) ∗ reached ER (kcell ck) 0)) (Finset.mem_univ (c, k)))

theorem Inv_lev (K : Dev nD × CK → ℕ) : Inv m K ⊢ (levAts L lv : sProp 𝕄) := by unfold Inv; exact sep_elim_right

/-! ## The state between two operations -/

/-- The source a transfer finds in the state: a first ring step's. -/
def srcHeld (t : T) (c : Dev nD) : sProp 𝕄 :=
  match t with
  | .z _ 0 => sendPay m t c
  | _ => iprop(emp)
/-- The source a departed transfer leaves in the state: a ring step's. -/
def bank (t : T) (c : Dev nD) : sProp 𝕄 :=
  match t with
  | .z _ _ => sendPay m t c
  | _ => iprop(emp)

/-- A transfer not yet started: its two duty tokens, the position at its departure cell, the landing place; for a first
    ring step also the source. -/
def unsent (c : Dev nD) (t : T) : sProp 𝕄 :=
  iprop(dutyTok ER (cell c (.s t)) 0 0 ∗ dutyTok ER (cell (dD t c) (.r t)) 0 0 ∗ atPos ER (cell c (.s t)) 0 ∅ 0 ∗ dstAny t c
    ∗ srcHeld m t c)
/-- A transfer on its way: the departure's credit. -/
def flying (c : Dev nD) (t : T) : sProp 𝕄 := iprop(cred (tallyAt (cell c (.s t)) () (N t)) ∗ atPos ER (cell c (.s t)) 0 ∅ 0)
/-- An arrival not yet waited for. -/
def expected (c : Dev nD) (t : T) : sProp 𝕄 := iprop(cred (tallyAt (cell c (.r t)) () (N t)) ∗ atPos ER (cell c (.r t)) 0 ∅ 0)
/-- A departure waited for: its semaphore at zero; a ring step's source is kept here. -/
def gone (c : Dev nD) (t : T) : sProp 𝕄 :=
  iprop(semVal (cell c (.s t)) 0 ∗ bank m t c)
/-- An arrival waited for. -/
def came (c : Dev nD) (t : T) : sProp 𝕄 := semVal (cell c (.r t)) 0

def stS (n w : ℕ) (c : Dev nD) (t : T) : sProp 𝕄 :=
  if rank t < n then (if 2 * wrank t < w then gone m c t else flying c t) else unsent m c t
def stR (w : ℕ) (c : Dev nD) (t : T) : sProp 𝕄 := if 2 * wrank t + 1 < w then came c t else expected c t

def St (c : Dev nD) (n w : ℕ) : sProp 𝕄 :=
  iprop(∃ W, owes (c : Thread nD τ) (owe n c) W ∗ bigSep Finset.univ fun t => iprop(stS m n w c t ∗ stR w c t))

/-- One index of a big conjunction replaced. -/
theorem bigSep_swap {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  rw [bigSep_erase (Finset.mem_univ i), bigSep_erase (Φ := Ψ) (Finset.mem_univ i),
    bigSep_congr (s := Finset.univ.erase i) fun j hj => h j (Finset.ne_of_mem_erase hj)]
  show iprop(Φ i ∗ bigSep (Finset.univ.erase i) Ψ) ⊢ iprop(Φ i ∗ (Ψ i -∗ Ψ i ∗ bigSep (Finset.univ.erase i) Ψ))
  iintro ⟨H, HR⟩
  isplitl [H]; · iexact H
  iintro H
  isplitl [H]; · iexact H
  iexact HR

theorem St_send (c : Dev nD) (t : T) {n w : ℕ} (hn : rank t = n) (hw : w ≤ 2 * wrank t) :
    bigSep Finset.univ (fun t => iprop(stS m n w c t ∗ stR w c t))
      ⊢ iprop(unsent m c t ∗ (flying c t -∗ bigSep Finset.univ (fun t => iprop(stS m (n + 1) w c t ∗ stR w c t)))) := by
  refine (bigSep_swap t _ (fun t => iprop(stS m (n + 1) w c t ∗ stR w c t)) fun t' h => ?_).trans ?_
  · have hne : rank t' ≠ n := fun e => h (rank_inj (e.trans hn.symm))
    unfold stS
    by_cases h' : rank t' < n
    · rw [if_pos h', if_pos (by omega : rank t' < n + 1)]
    · rw [if_neg h', if_neg (by omega : ¬ rank t' < n + 1)]
  · have e1 : stS m n w c t = unsent m c t := by unfold stS; rw [if_neg (by omega)]
    have e2 : stS m (n + 1) w c t = flying c t := by unfold stS; rw [if_pos (by omega), if_neg (by omega)]
    rw [e1, e2]
    iintro ⟨⟨H, HR⟩, Hk⟩
    isplitl [H]; · iexact H
    iintro H
    iapply Hk
    isplitl [H]; · iexact H
    iexact HR

theorem St_gone (c : Dev nD) (t : T) {n w : ℕ} (hn : rank t < n) (hw : w = 2 * wrank t) :
    bigSep Finset.univ (fun t => iprop(stS m n w c t ∗ stR w c t))
      ⊢ iprop(flying c t ∗ (gone m c t -∗ bigSep Finset.univ (fun t => iprop(stS m n (w + 1) c t ∗ stR (w + 1) c t)))) := by
  refine (bigSep_swap t _ (fun t => iprop(stS m n (w + 1) c t ∗ stR (w + 1) c t)) fun t' h => ?_).trans ?_
  · have hne : wrank t' ≠ wrank t := fun e => h (wrank_inj e)
    unfold stS stR
    congr 1
    · by_cases h' : 2 * wrank t' < w
      · rw [if_pos h', if_pos (by omega : 2 * wrank t' < w + 1)]
      · rw [if_neg h', if_neg (by omega : ¬ 2 * wrank t' < w + 1)]
    · by_cases h' : 2 * wrank t' + 1 < w
      · rw [if_pos h', if_pos (by omega : 2 * wrank t' + 1 < w + 1)]
      · rw [if_neg h', if_neg (by omega : ¬ 2 * wrank t' + 1 < w + 1)]
  · have e1 : stS m n w c t = flying c t := by unfold stS; rw [if_pos hn, if_neg (by omega)]
    have e2 : stS m n (w + 1) c t = gone m c t := by unfold stS; rw [if_pos hn, if_pos (by omega)]
    have e3 : (stR w c t : sProp 𝕄) = stR (w + 1) c t := by unfold stR; rw [if_neg (by omega), if_neg (by omega)]
    rw [e1, e2, e3]
    iintro ⟨⟨H, HR⟩, Hk⟩
    isplitl [H]; · iexact H
    iintro H
    iapply Hk
    isplitl [H]; · iexact H
    iexact HR

theorem St_came (c : Dev nD) (t : T) {n w : ℕ} (hw : w = 2 * wrank t + 1) :
    bigSep Finset.univ (fun t => iprop(stS m n w c t ∗ stR w c t))
      ⊢ iprop(expected c t ∗ (came c t -∗ bigSep Finset.univ (fun t => iprop(stS m n (w + 1) c t ∗ stR (w + 1) c t)))) := by
  refine (bigSep_swap t _ (fun t => iprop(stS m n (w + 1) c t ∗ stR (w + 1) c t)) fun t' h => ?_).trans ?_
  · have hne : wrank t' ≠ wrank t := fun e => h (wrank_inj e)
    unfold stS stR
    congr 1
    · by_cases h' : 2 * wrank t' < w
      · rw [if_pos h', if_pos (by omega : 2 * wrank t' < w + 1)]
      · rw [if_neg h', if_neg (by omega : ¬ 2 * wrank t' < w + 1)]
    · by_cases h' : 2 * wrank t' + 1 < w
      · rw [if_pos h', if_pos (by omega : 2 * wrank t' + 1 < w + 1)]
      · rw [if_neg h', if_neg (by omega : ¬ 2 * wrank t' + 1 < w + 1)]
  · have e1 : stS m n (w + 1) c t = stS m n w c t := by
      unfold stS; rw [if_pos (by omega : 2 * wrank t < w), if_pos (by omega : 2 * wrank t < w + 1)]
    have e2 : (stR w c t : sProp 𝕄) = expected c t := by unfold stR; rw [if_neg (by omega)]
    have e3 : (stR (w + 1) c t : sProp 𝕄) = came c t := by unfold stR; rw [if_pos (by omega)]
    rw [e1, e2, e3]
    iintro ⟨⟨H, HR⟩, Hk⟩
    isplitl [HR]; · iexact HR
    iintro HR
    iapply Hk
    isplitl [H]; · iexact H
    iexact HR

/-- The state before the first transfer. -/
theorem St_intro (c : Dev nD) : iprop((∃ W, owes (c : Thread nD τ) (owe 0 c) W) ∗ bigSep Finset.univ (fun t => iprop(unsent m c t ∗ expected c t)))
    ⊢ St m c 0 0 := by
  unfold St
  iintro ⟨⟨%W, HO⟩, H⟩
  iexists W
  isplitl [HO]; · iexact HO
  iexact H

/-- The state after the last. -/
theorem St_elim (c : Dev nD) : St m c 23 46
    ⊢ iprop((∃ W, owes (c : Thread nD τ) 0 W) ∗ bigSep Finset.univ (fun t => iprop(gone m c t ∗ came c t))) := by
  unfold St
  rw [owe_end, bigSep_congr (Φ := fun t => iprop(stS m 23 46 c t ∗ stR 46 c t)) (Ψ := fun t => iprop(gone m c t ∗ came c t)) fun t _ => by
    have h1 := rank_lt t; have h2 := wrank_lt t
    unfold stS stR; rw [if_pos h1, if_pos (by omega), if_pos (by omega)]]
  iintro ⟨%W, HO, H⟩
  isplitl [HO]; · iexists W; iexact HO
  iexact H

end Cert.RingProof

end
-- ==== Proof.Steps.lean ====
/-
# The steps of the kernel

One rule per kind of operation the body makes, each from `St c n w` to the next state: a transfer started, a departure or
an arrival waited for, a copy within the device, a block added, a block stored or loaded. They are stated at any offsets
equal to the ones the operation is about, so that one rule serves every part, step and block.
-/
module

public import proofs.«01_k».proof.Proof.Sched
public import Idealize.ShloMosaic.Lib.ValueLayout
public import Idealize.ShloMosaic.Lib.Pipeline.Value

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers and their blocks -/

abbrev aM : Memref sig .tc .hbm S1x8192x2048 .f32 := Memref.whole main_arg0
abbrev gM : Memref sig .tc .vmem S2048 .f32 := Memref.whole cc0_stg0_0
abbrev oM : Memref sig .tc .vmem S2048x2048 .f32 := Memref.whole cc0_stg1_0
abbrev cM : Memref sig .tc .vmem S4x3x512x512 .f32 := Memref.whole cc0_scratch0
abbrev lM : Memref sig .tc .vmem S512x512 .f32 := Memref.whole cc0_scratch1

set_option backward.proofsInPublic true in
/-- A slot of the landing buffer. -/
abbrev cV (off : Fin 4 → ℕ) (inb : ∀ a, off a + S1x1x512x512.size a ≤ S4x3x512x512.size a) : Memref sig .tc .vmem S512x512 .f32 :=
  (cM.slice (Rect.unit (s := S4x3x512x512) off S1x1x512x512.size inb) (fun _ => rfl)).squeeze S512x512 squeezes_S1x1x512x512_S512x512
set_option backward.proofsInPublic true in
/-- A block of the operand. -/
abbrev aB (off : Fin 3 → ℕ) (inb : ∀ a, off a + S1x512x512.size a ≤ S1x8192x2048.size a) : Memref sig .tc .hbm S512x512 .f32 :=
  (aM.slice (Rect.unit (s := S1x8192x2048) off S1x512x512.size inb) (fun _ => rfl)).squeeze S512x512 squeezes_S1x512x512_S512x512
set_option backward.proofsInPublic true in
/-- A block of the output. -/
abbrev oB (off size : Fin 2 → ℕ) (inb : ∀ a, off a + size a ≤ S2048x2048.size a) : Memref sig .tc .vmem ⟨2, size⟩ .f32 :=
  oM.slice (Rect.unit (s := S2048x2048) off size inb) (fun _ => rfl)

theorem set_cV {off inb} (p : Fin 4) (s : Fin 3) (ho : off = ![p.val, s.val, 0, 0]) : (cV off inb).view.set = cset p s := by
  show (((View.whole cc0_scratch0).slice (Rect.unit (s := S4x3x512x512) off S1x1x512x512.size inb)).reshape S512x512 _).set = _
  rw [View.set_reshape, View.set_slice_whole]; exact rect_cset p s ho
theorem set_aB {off inb} (k p q : Fin 4) (ho : off = ![0, 2048 * k.val + 512 * p.val, 512 * q.val]) : (aB off inb).view.set = aset k p q := by
  show (((View.whole main_arg0).slice (Rect.unit (s := S1x8192x2048) off S1x512x512.size inb)).reshape S512x512 _).set = _
  rw [View.set_reshape, View.set_slice_whole]; exact rect_aset k p q ho
theorem set_oB {off size inb S} (h : (Rect.unit (s := S2048x2048) off size inb).set = S) : (oB off size inb).view.set = S := by
  show ((View.whole cc0_stg1_0).slice (Rect.unit (s := S2048x2048) off size inb)).set = _
  rw [View.set_slice_whole]; exact h

theorem read_cV {off inb} (p : Fin 4) (s : Fin 3) (ho : off = ![p.val, s.val, 0, 0]) (f : S4x3x512x512.Idx → F .f32) (r j : Fin 512) :
    (cV off inb).view.read (Elt F) f (ix2 r j) = f (ix4 p s r j) := by
  subst ho
  show f ((Rect.unit (s := S4x3x512x512) _ S1x1x512x512.size inb).emb (Shape.reshapeEquiv _ (ix2 r j))) = _
  rw [reshapeEquiv_ix2_11ab]
  congr 1
  funext a
  match a with
  | 0 => exact Fin.ext (Nat.add_zero _)
  | 1 => exact Fin.ext (Nat.add_zero _)
  | 2 => refine Fin.ext ?_; show 0 + 1 * r.val = r.val; omega
  | 3 => refine Fin.ext ?_; show 0 + 1 * j.val = j.val; omega

theorem read_aB {off inb} (c : Dev nD) (k p : Fin 4) (ho : off = ![0, 2048 * k.val + 512 * p.val, 512 * (devQ c).val]) (r j : Fin 512) :
    (aB off inb).view.read (Elt F) (aV m c) (ix2 r j) = tv m (devQ c) (devZ c) k (512 * p.val + r.val) j.val := by
  subst ho
  show aV m c ((Rect.unit (s := S1x8192x2048) _ S1x512x512.size inb).emb (Shape.reshapeEquiv _ (ix2 r j))) = _
  rw [reshapeEquiv_ix2_1ab]
  unfold tv
  rw [mk_dev]
  have hk := k.isLt; have hp := p.isLt; have hq := (devQ c).isLt; have hr := r.isLt; have hj := j.isLt
  congr 1
  funext a
  match a with
  | 0 => exact Fin.ext rfl
  | 1 =>
    refine Fin.ext ?_
    show 2048 * k.val + 512 * p.val + 1 * r.val = (2048 * k.val + (512 * p.val + r.val)) % 8192
    omega
  | 2 =>
    refine Fin.ext ?_
    show 512 * (devQ c).val + 1 * j.val = (512 * (devQ c).val + j.val) % 2048
    omega

/-- A view rewritten whole holds, on its elements, any contents that read the same through it. -/
theorem write_of_read {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem (h := Finset.mem_univ x), ← h, View.read_apply]
  simp

/-! ## The program at a device -/

abbrev 𝒱₀ : Variants := Variants.none

/-- The weakest precondition of a program run by a device. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The elements of the output in `S`, summed. -/
abbrev oP (c : Dev nD) (S : Finset (Fin 5 × Fin 4)) : sProp 𝕄 := oLoc c ↦[osF S]{fullShare} (Y m (devZ c) : Buf (Elt F) (oLoc c))
/-- The elements of the output in `S`, at any contents. -/
abbrev oA (c : Dev nD) (S : Finset (Fin 5 × Fin 4)) : sProp 𝕄 := iprop(∃ f : Buf (Elt F) (oLoc c), oLoc c ↦[osF S]{fullShare} f)
/-- A slot of the landing buffer, at contents `f`. -/
abbrev cP (c : Dev nD) (p : Fin 4) (s : Fin 3) (f : S4x3x512x512.Idx → F .f32) : sProp 𝕄 := cLoc c ↦[cset p s]{fullShare} (f : Buf (Elt F) (cLoc c))

theorem oP_join {c : Dev nD} {S S' S'' : Finset (Fin 5 × Fin 4)} (h : Disjoint S S' ∧ S'' = S ∪ S') :
    oP m c S'' ⊣⊢ iprop(oP m c S ∗ oP m c S') := by
  unfold oP
  rw [h.2, osF_union]
  exact pointsTo_union (osF_disjoint h.1)

/-- Whether a transfer moves a block of the output. -/
def isOut : T → Prop
  | .z _ _ => False
  | _ => True

theorem sendPay_out {t : T} (h : isOut t) (c : Dev nD) : sendPay m t c = oP m c (oR t (devQ c)) := by cases t <;> first | rfl | exact h.elim
theorem recvPay_out {t : T} (h : isOut t) (c : Dev nD) : recvPay m t c = oP m c (oR t (devQ (sD t c))) := by cases t <;> first | rfl | exact h.elim
theorem dstAny_out {t : T} (h : isOut t) (c : Dev nD) : dstAny (F := F) t c = oA (dD t c) (oR t (devQ c)) := by cases t <;> first | rfl | exact h.elim
theorem devZ_out {t : T} (h : isOut t) : ∀ c, devZ (dD t c) = devZ c := by
  cases t <;> first | exact h.elim | (intro c; first | exact devZ_xp c | exact devZ_yp c)

variable (K : Dev nD × CK → ℕ)

/-! ## A transfer started -/

theorem send_gen (c : Dev nD) (t : T) {n w : ℕ} (hn : rank t = n) (hw : w ≤ 2 * wrank t) {sp sp' : Space} {s : Shape}
    {src : Memref sig .tc sp s .f32} {dst : Memref sig .tc sp' s .f32} {sS rS : DmaSem sig} (hsS : sS = sSem t) (hrS : rS = rSem t)
    (d : Dev nD) (hd : d = dD t c) {hsc : (dst : Memref sig (Dev.tc d : Thread nD τ).2.kind sp' s .f32).view.ref.isScScratch = false}
    {hsrc : src.view.WordExact} {hdst : dst.view.WordExact}
    {hsem : DmaTarget.Typed sp (.dma rS) (.remote (Dev.tc d : Thread nD τ) (dst : Memref sig (Dev.tc d : Thread nD τ).2.kind sp' s .f32) (.dma sS) hsc)}
    {α : Type} {Q : α → sProp 𝕄} {k : PUnit → Prog (TpuEff nD τ sig (Elt F) Λ₀ .tc) α}
    (fs : Buf (Elt F) (src.view.loc (c : Thread nD τ))) (X : sProp 𝕄) (hN : dst.view.amount (.dma rS) = N t)
    (hX : iprop(X ∗ srcHeld m t c) ⊢ (src.view.loc (c : Thread nD τ) ↦[src.view.set]{fullShare} fs))
    (hp : (src.view.loc (c : Thread nD τ) ↦[src.view.set]{fullShare} fs) ⊢ sendPay m t c)
    (hA : dstAny t c ⊢ iprop(∃ fd : Buf (Elt F) (dst.view.loc (dD t c : Thread nD τ)), dst.view.loc (dD t c : Thread nD τ) ↦[dst.view.set]{fullShare} fd))
    (hr : ∀ fd : Buf (Elt F) (dst.view.loc (dD t c : Thread nD τ)),
      (dst.view.loc (dD t c : Thread nD τ) ↦[dst.view.set]{fullShare} (dst.view.write (Elt F) fd (src.view.read (Elt F) fs) Finset.univ)) ⊢ recvPay m t (dD t c)) :
    Inv m K ⊢ iprop(St m c n w -∗ X -∗ (St m c (n + 1) w -∗ WP c (k ⟨⟩) Q)
      -∗ WP c (.op (.enqueueDma src (.remote (Dev.tc d : Thread nD τ) dst (.dma sS) hsc) (.dma rS) hsrc hdst hsem) k) Q) := by
  subst hd hsS hrS
  iintro #HI HSt HX Hk
  unfold St
  icases HSt with ⟨%W, HO, HB⟩
  ihave HB' := (St_send m c t hn hw) $$ HB
  icases HB' with ⟨HU, HB⟩
  unfold unsent
  icases HU with ⟨HtS, HtR, HatS, Hd, Hx⟩
  ihave Hs := hX $$ [HX Hx]
  · isplitl [HX]; · iexact HX
    iexact Hx
  ihave Hd' := hA $$ Hd
  icases Hd' with ⟨%fd, Hd⟩
  ihave Hc1 := (Inv_cell m K c (.s t)) $$ HI
  icases Hc1 with ⟨#HIs, #HrS⟩
  ihave Hc2 := (Inv_cell m K (dD t c) (.r t)) $$ HI
  icases Hc2 with ⟨#HIr, #HrR⟩
  iapply (Rounds.wp_send_pointsTo 𝒱₀ ER (rd m) (c : Thread nD τ) none (κ₁ := K (c, .s t)) (κ₂ := K (dD t c, .r t))
    (r₁ := 0) (r₂ := 0) (d₁ := 0) (d₂ := 0) (fs := fs) (fd := fd)
    (show (0 : Fin 4) ∈ (rd m).duties (cell c (.s t)) 0 by rw [rd_duties]; exact Finset.mem_singleton_self _)
    (show (0 : Fin 4) ∈ (rd m).duties (cell (dD t c) (.r t)) 0 by rw [rd_duties]; exact Finset.mem_singleton_self _)
    () () (N t) hN (rd_amount m c (.s t) 0) (rd_amount m (dD t c) (.r t) 0) (owe (n + 1) c) (owe_peel t c hn) (W := W)
    (hp.trans (Entails.of_eq (rd_payload m c (.s t) 0).symm)) ((hr fd).trans (Entails.of_eq (rd_payload m (dD t c) (.r t) 0).symm))) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  iexists W
  isplitl [HO]; · iexact HO
  iapply HB
  unfold flying
  isplitl [Hc]; · iexact Hc
  iexact HatS

theorem pts_cV {off inb} (d : Dev nD) (p : Fin 4) (s : Fin 3) (ho : off = ![p.val, s.val, 0, 0]) (f : S4x3x512x512.Idx → F .f32) :
    (((cV off inb).view.loc (d : Thread nD τ) ↦[(cV off inb).view.set]{fullShare} (f : Buf (Elt F) (cLoc d))) : sProp 𝕄) = cP d p s f := by
  rw [set_cV p s ho]
theorem pts_aB {off inb} (d : Dev nD) (k p q : Fin 4) (ho : off = ![0, 2048 * k.val + 512 * p.val, 512 * q.val]) (f : S1x8192x2048.Idx → F .f32) :
    (((aB off inb).view.loc (d : Thread nD τ) ↦[(aB off inb).view.set]{fullShare} (f : Buf (Elt F) (aLoc d))) : sProp 𝕄)
      = aLoc d ↦[aset k p q]{fullShare} (f : Buf (Elt F) (aLoc d)) := by
  rw [set_aB k p q ho]
theorem pts_oB {off size inb S} (d : Dev nD) (h : (Rect.unit (s := S2048x2048) off size inb).set = osF S) (f : S2048x2048.Idx → F .f32) :
    (((oB off size inb).view.loc (d : Thread nD τ) ↦[(oB off size inb).view.set]{fullShare} (f : Buf (Elt F) (oLoc d))) : sProp 𝕄)
      = oLoc d ↦[osF S]{fullShare} (f : Buf (Elt F) (oLoc d)) := by
  rw [set_oB h]

/-- A first ring step: a block of the operand to the right neighbour's landing buffer. -/
theorem send_z0 (c : Dev nD) (p : Fin 4) {n w : ℕ} (hn : rank (.z p 0) = n) (hw : w ≤ 2 * wrank (.z p 0))
    (d : Dev nD) (hd : d = rgt c) {off : Fin 3 → ℕ} (ho : off = ![0, 2048 * (devZ c + 3).val + 512 * p.val, 512 * (devQ c).val]) {inb}
    {off' : Fin 4 → ℕ} (ho' : off' = ![p.val, 0, 0, 0]) {inb'} {sS rS : DmaSem sig} (hsS : sS = sSem (.z p 0)) (hrS : rS = rSem (.z p 0))
    {hsc : ((cV off' inb') : Memref sig (Dev.tc d : Thread nD τ).2.kind _ _ .f32).view.ref.isScScratch = false}
    {hsrc : (aB off inb).view.WordExact} {hdst : (cV off' inb').view.WordExact} {hsem}
    {α : Type} {Q : α → sProp 𝕄} {k : PUnit → Prog (TpuEff nD τ sig (Elt F) Λ₀ .tc) α} :
    Inv m K ⊢ iprop(St m c n w -∗ (St m c (n + 1) w -∗ WP c (k ⟨⟩) Q)
      -∗ WP c (.op (.enqueueDma (aB off inb) (.remote (Dev.tc d : Thread nD τ) (cV off' inb') (.dma sS) hsc) (.dma rS) hsrc hdst hsem) k) Q) := by
  have e : (dD (.z p 0) c) = rgt c := rfl
  have key := send_gen m K c (.z p 0) hn hw (src := aB off inb) (dst := cV off' inb') hsS hrS d hd (hsc := hsc) (hsrc := hsrc) (hdst := hdst) (hsem := hsem)
    (Q := Q) (k := k) (aV m c) iprop(emp) rfl
    (by
      rw [pts_aB c (devZ c + 3) p (devQ c) ho]
      exact (Laws.emp_sep (PROP := sProp 𝕄)).1)
    (by rw [pts_aB c (devZ c + 3) p (devQ c) ho]; exact .rfl)
    (by rw [set_cV p 0 ho']; rfl)
    (fun fd => by
      refine Entails.of_eq ((pointsTo_congr (write_of_read (cV off' inb').view fd (CR m (rgt c)) ((aB off inb).view.read (Elt F) (aV m c)) ?_)).trans ?_)
      · funext x
        rw [eq_ix2 x]
        refine (read_cV p 0 ho' _ _ _).trans (Eq.trans ?_ (read_aB m c (devZ c + 3) p ho _ _).symm)
        show tv m (devQ (rgt c)) (devZ (rgt c) + 3) (devZ (rgt c) + 2) _ _ = _
        have h1 : ∀ c, devZ (rgt c) + 3 = devZ c := by decide
        have h2 : ∀ c, devZ (rgt c) + 2 = devZ c + 3 := by decide
        rw [h1, h2, devQ_rgt]
      · rw [set_cV p 0 ho']; rfl)
  iintro HI HSt Hk
  iapply key $$ HI HSt [] Hk
  iempintro

/-- A later ring step: a summed slot to the right neighbour's next slot. -/
theorem send_z (c : Dev nD) (p : Fin 4) (s s' : Fin 3) (hs : (s = 0 ∧ s' = 1) ∨ (s = 1 ∧ s' = 2)) {n w : ℕ} (hn : rank (.z p s') = n)
    (hw : w ≤ 2 * wrank (.z p s')) (d : Dev nD) (hd : d = rgt c) {off : Fin 4 → ℕ} (ho : off = ![p.val, s.val, 0, 0]) {inb}
    {off' : Fin 4 → ℕ} (ho' : off' = ![p.val, s'.val, 0, 0]) {inb'} {sS rS : DmaSem sig} (hsS : sS = sSem (.z p s')) (hrS : rS = rSem (.z p s'))
    {hsc : ((cV off' inb') : Memref sig (Dev.tc d : Thread nD τ).2.kind _ _ .f32).view.ref.isScScratch = false}
    {hsrc : (cV off inb).view.WordExact} {hdst : (cV off' inb').view.WordExact} {hsem}
    {α : Type} {Q : α → sProp 𝕄} {k : PUnit → Prog (TpuEff nD τ sig (Elt F) Λ₀ .tc) α} :
    Inv m K ⊢ iprop(St m c n w -∗ cP c p s (CA m c) -∗ (St m c (n + 1) w -∗ WP c (k ⟨⟩) Q)
      -∗ WP c (.op (.enqueueDma (cV off inb) (.remote (Dev.tc d : Thread nD τ) (cV off' inb') (.dma sS) hsc) (.dma rS) hsrc hdst hsem) k) Q) := by
  have hp : sendPay m (.z p s') c = cP c p s (CA m c) := by
    rcases hs with ⟨rfl, rfl⟩ | ⟨rfl, rfl⟩ <;> rfl
  have hx : srcHeld m (.z p s') c = iprop(emp) := by
    rcases hs with ⟨rfl, rfl⟩ | ⟨rfl, rfl⟩ <;> rfl
  have hss : s'.val = s.val + 1 := by rcases hs with ⟨rfl, rfl⟩ | ⟨rfl, rfl⟩ <;> rfl
  exact send_gen m K c (.z p s') hn hw (src := cV off inb) (dst := cV off' inb') hsS hrS d hd (hsc := hsc) (hsrc := hsrc) (hdst := hdst) (hsem := hsem)
    (Q := Q) (k := k) (CA m c) (cP c p s (CA m c)) rfl
    (by
      refine (sep_mono_right (Entails.of_eq hx)).trans ?_
      rw [pts_cV c p s ho]
      exact (Laws.sep_emp (PROP := sProp 𝕄)).1)
    (by rw [pts_cV c p s ho, hp])
    (by rw [set_cV p s' ho']; rfl)
    (fun fd => by
      refine Entails.of_eq ((pointsTo_congr (write_of_read (cV off' inb').view fd (CR m (rgt c)) ((cV off inb).view.read (Elt F) (CA m c)) ?_)).trans ?_)
      · funext x
        rw [eq_ix2 x]
        refine (read_cV p s' ho' _ _ _).trans (Eq.trans ?_ (read_cV p s ho _ _ _).symm)
        show rv m s'.val (devQ (rgt c)) (devZ (rgt c)) _ _ = av m s.val (devQ c) (devZ c) _ _
        have h1 : ∀ c, devZ (rgt c) + 3 = devZ c := by decide
        rw [hss, rv_succ, h1, devQ_rgt]
      · rw [set_cV p s' ho']; rfl)

/-- A block of the output to a peer. -/
theorem send_o (c : Dev nD) (t : T) (ht : isOut t) {n w : ℕ} (hn : rank t = n) (hw : w ≤ 2 * wrank t) (d : Dev nD) (hd : d = dD t c)
    {S : Finset (Fin 5 × Fin 4)} (hS : oR t (devQ c) = S) {off size : Fin 2 → ℕ} {inb}
    (ho : (Rect.unit (s := S2048x2048) off size inb).set = osF S) (hN : (oB off size inb).view.dmaCredit = N t)
    {sS rS : DmaSem sig} (hsS : sS = sSem t) (hrS : rS = rSem t)
    {hsc : ((oB off size inb) : Memref sig (Dev.tc d : Thread nD τ).2.kind _ _ .f32).view.ref.isScScratch = false}
    {hsrc : (oB off size inb).view.WordExact} {hdst : (oB off size inb).view.WordExact} {hsem}
    {α : Type} {Q : α → sProp 𝕄} {k : PUnit → Prog (TpuEff nD τ sig (Elt F) Λ₀ .tc) α} :
    Inv m K ⊢ iprop(St m c n w -∗ oP m c S -∗ (St m c (n + 1) w -∗ WP c (k ⟨⟩) Q)
      -∗ WP c (.op (.enqueueDma (oB off size inb) (.remote (Dev.tc d : Thread nD τ) (oB off size inb) (.dma sS) hsc) (.dma rS) hsrc hdst hsem) k) Q) := by
  have hx : srcHeld m t c = iprop(emp) := by
    cases t <;> first | exact ht.elim | rfl
  exact send_gen m K c t hn hw (src := oB off size inb) (dst := oB off size inb) hsS hrS d hd (hsc := hsc) (hsrc := hsrc) (hdst := hdst) (hsem := hsem)
    (Q := Q) (k := k) (Y m (devZ c)) (oP m c S) hN
    (by
      refine (sep_mono_right (Entails.of_eq hx)).trans ?_
      rw [pts_oB c ho]
      exact (Laws.sep_emp (PROP := sProp 𝕄)).1)
    (by rw [pts_oB c ho, sendPay_out m ht, hS])
    (by rw [set_oB ho, dstAny_out ht, hS])
    (fun fd => by
      rw [pointsTo_congr (write_of_read (oB off size inb).view fd (Y m (devZ (dD t c))) _ (by rw [devZ_out ht])), set_oB ho,
        recvPay_out m ht, sD_dD, hS])

/-! ## Waits -/

/-- What of a departure's payload goes back to the body: a block of the output. A ring step's source stays in the state. -/
def backS (t : T) (c : Dev nD) : sProp 𝕄 :=
  match t with
  | .z _ _ => iprop(emp)
  | _ => sendPay m t c

theorem gone_intro (c : Dev nD) (t : T) : iprop(semVal (cell c (.s t)) 0 ∗ sendPay m t c) ⊢ iprop(gone m c t ∗ backS m t c) := by
  unfold gone
  have h : sendPay m t c ⊢ iprop(bank m t c ∗ backS m t c) := by
    cases t <;> first
      | exact (Laws.sep_emp (PROP := sProp 𝕄)).2
      | exact (Laws.emp_sep (PROP := sProp 𝕄)).2
  iintro ⟨Hv, Hp⟩
  ihave Hp' := h $$ Hp
  icases Hp' with ⟨Hb, Hs⟩
  isplitr [Hs]
  · isplitl [Hv]; · iexact Hv
    iexact Hb
  iexact Hs

/-- The wait for a transfer to have left. -/
theorem wait_s (c : Dev nD) (t : T) {n w : ℕ} (hn : rank t < n) (hw : w = 2 * wrank t) {sS : DmaSem sig} (hsS : sS = sSem t)
    {sp sp' : Space} {s s' : Shape} {e e' : EltTy} {src : Memref sig .tc sp' s' e'} {dst : Memref sig .tc sp s e}
    (hN : dst.view.dmaCredit = N t) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ backS m t c -∗ WP c (k ⟨⟩) Q) -∗ WP c (.op (.waitDma2 sS src dst hsrc hdst) k) Q) := by
  subst hsS
  iintro #HI HSt Hk
  unfold St
  icases HSt with ⟨%W, HO, HB⟩
  ihave HB' := (St_gone m c t hn hw) $$ HB
  icases HB' with ⟨HF, HB⟩
  unfold flying
  icases HF with ⟨Hc, Hat⟩
  ihave Hc1 := (Inv_cell m K c (.s t)) $$ HI
  icases Hc1 with ⟨#HIs, #HrS⟩
  ihave Hl := (Inv_lev m K) $$ HI
  rw [← hN]
  iapply (Rounds.wp_wait_rest_token 𝒱₀ ER (rd m) (c : Thread nD τ) none (κ := K (c, .s t))
      (wpE_waitDma2_eq 𝒱₀ (c : Thread nD τ) none Set.univ) (Set.mem_univ _) () (O := owe n c) (W := W) (R := 0) (m := 0) (T := ∅)
      (by rw [Nat.zero_add, hN]; exact (rd_expect_s m c t).symm)) $$ [Hc HO Hat Hl]
  · isplitr; · iexact HIs
    isplitl [Hc]; · iexact Hc
    isplitl [HO]; · iexact HO
    isplitl [Hl]
    · iapply (mayWait c (.dma (sSem t)) n (fun t' _ => by
        show kLv (cls (csem (.s t))) < _; rw [cls_csem]; exact Nat.succ_pos _)); iexact Hl
    iexact Hat
  iintro ⟨HO, Hat, -, Hpay⟩
  have hrest : bigSep ((rd m).duties ((c : Thread nD τ), .dma (sSem t)) 0 \ ∅) (fun d => (rd m).payload ((c : Thread nD τ), .dma (sSem t)) 0 d) ⊢ sendPay m t c :=
    Entails.of_eq (rest_s m c t)
  ihave Hp := hrest $$ Hpay
  imod (Rounds.cell_close ER (rd m) (Set.mem_univ (K (c, .s t))) (fun h => h) (R := 0 + 1) (rd_later m (cell c (.s t)))) $$ [Hat] with Hz
  · isplitr; · iexact HIs
    iexact Hat
  ihave Hg := (gone_intro m c t) $$ [Hz Hp]
  · isplitl [Hz]; · iexact Hz
    iexact Hp
  icases Hg with ⟨Hg, Hb⟩
  iapply Hk $$ [HO Hg HB] Hb
  iexists _
  isplitl [HO]; · iexact HO
  iapply HB
  iexact Hg

/-- The wait for a transfer to have arrived. -/
theorem wait_r (c : Dev nD) (t : T) {n w : ℕ} (hn : rank t < n) (hw : w = 2 * wrank t + 1) {rS : DmaSem sig} (hrS : rS = rSem t)
    {sp sp' : Space} {s s' : Shape} {e e' : EltTy} {src : Memref sig .tc sp' s' e'} {dst : Memref sig .tc sp s e}
    (hN : dst.view.dmaCredit = N t) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ recvPay m t c -∗ WP c (k ⟨⟩) Q) -∗ WP c (.op (.waitDma2 rS src dst hsrc hdst) k) Q) := by
  subst hrS
  iintro #HI HSt Hk
  unfold St
  icases HSt with ⟨%W, HO, HB⟩
  ihave HB' := (St_came m c t hw) $$ HB
  icases HB' with ⟨HF, HB⟩
  unfold expected
  icases HF with ⟨Hc, Hat⟩
  ihave Hc1 := (Inv_cell m K c (.r t)) $$ HI
  icases Hc1 with ⟨#HIs, #HrS⟩
  ihave Hl := (Inv_lev m K) $$ HI
  rw [← hN]
  iapply (Rounds.wp_wait_rest_token 𝒱₀ ER (rd m) (c : Thread nD τ) none (κ := K (c, .r t))
      (wpE_waitDma2_eq 𝒱₀ (c : Thread nD τ) none Set.univ) (Set.mem_univ _) () (O := owe n c) (W := W) (R := 0) (m := 0) (T := ∅)
      (by rw [Nat.zero_add, hN]; exact (rd_expect_r m c t).symm)) $$ [Hc HO Hat Hl]
  · isplitr; · iexact HIs
    isplitl [Hc]; · iexact Hc
    isplitl [HO]; · iexact HO
    isplitl [Hl]
    · iapply (mayWait c (.dma (rSem t)) n (fun t' ht' => by
        show kLv (cls (csem (.r t))) < _; rw [cls_csem]; show rank t + 2 < _; omega)); iexact Hl
    iexact Hat
  iintro ⟨HO, Hat, -, Hpay⟩
  have hrest : bigSep ((rd m).duties ((c : Thread nD τ), .dma (rSem t)) 0 \ ∅) (fun d => (rd m).payload ((c : Thread nD τ), .dma (rSem t)) 0 d) ⊢ recvPay m t c :=
    Entails.of_eq (rest_r m c t)
  ihave Hp := hrest $$ Hpay
  imod (Rounds.cell_close ER (rd m) (Set.mem_univ (K (c, .r t))) (fun h => h) (R := 0 + 1) (rd_later m (cell c (.r t)))) $$ [Hat] with Hz
  · isplitr; · iexact HIs
    iexact Hat
  iapply Hk $$ [HO Hz HB] Hp
  iexists _
  isplitl [HO]; · iexact HO
  iapply HB
  unfold came
  iexact Hz

/-! ## Copies within the device -/

/-- The copies' counters. -/
abbrev EC : UEmb Counters (MT nD τ sig Unit (Elt F) ℕ UU ℕ) := countersEmb (U := UU)

/-- The operand but the four blocks the first ring steps send. -/
def aRest (c : Dev nD) : Finset S1x8192x2048.Idx :=
  Finset.univ.filter fun i => ¬ ((i 1).val / 2048 = (devZ c + 3).val ∧ (i 2).val / 512 = (devQ c).val)

abbrev aR (c : Dev nD) : sProp 𝕄 := aLoc c ↦[aRest c]{fullShare} (aV m c : Buf (Elt F) (aLoc c))
/-- The local buffer's ownership between copies, after a copy, and during one. -/
def Lc (c : Dev nD) : sProp 𝕄 := iprop((∃ f : Buf (Elt F) (lLoc c), lLoc c ↦{fullShare} f) ∗ semVal ((c : Thread nD τ), .dma locS) 0 ∗ aR m c)
def Lv (c : Dev nD) (p : Fin 4) (s : Fin 3) : sProp 𝕄 :=
  iprop((lLoc c ↦{fullShare} (LV m c p s : Buf (Elt F) (lLoc c))) ∗ semVal ((c : Thread nD τ), .dma locS) 0 ∗ aR m c)
def Lf (c : Dev nD) (p : Fin 4) (s : Fin 3) : sProp 𝕄 :=
  iprop(∃ D : sProp 𝕄, Transfers.Flight EC (c : Thread nD τ) (.dma locS) () ((cc0_scratch1 : Ref sig .tc).dmaCredit S512x512 .f32) D
    ∗ (D -∗ (lLoc c ↦{fullShare} (LV m c p s : Buf (Elt F) (lLoc c))) ∗ aR m c))

theorem Lc_of_Lv (c : Dev nD) (p : Fin 4) (s : Fin 3) : Lv m c p s ⊢ Lc m c := by
  unfold Lv Lc
  iintro ⟨H, HR⟩
  isplitl [H]; · iexists _; iexact H
  iexact HR

theorem ck_ne : ∀ (z : Fin 4) (s : Fin 3), ck z s.val ≠ z + 3 := by decide

set_option backward.proofsInPublic true in
/-- The local buffer whole, as a copy names it. -/
abbrev lB (off : Fin 2 → ℕ) (inb : ∀ a, off a + S512x512.size a ≤ S512x512.size a) : Memref sig .tc .vmem S512x512 .f32 :=
  lM.slice (Rect.unit (s := S512x512) off S512x512.size inb) (fun _ => rfl)

theorem copy_start (c : Dev nD) (p : Fin 4) (s : Fin 3) {off : Fin 3 → ℕ}
    (ho : off = ![0, 2048 * (ck (devZ c) s.val).val + 512 * p.val, 512 * (devQ c).val]) {inb}
    {off' : Fin 2 → ℕ} (ho' : off' = ![0, 0]) {inb'} {sm : DmaSem sig} (hsm : sm = locS)
    {hsrc : (aB off inb).view.WordExact} {hdst : (lB off' inb').view.WordExact} {hsem}
    {α : Type} {Q : α → sProp 𝕄} {k : PUnit → Prog (TpuEff nD τ sig (Elt F) Λ₀ .tc) α} :
    Lc m c ⊢ iprop((Lf m c p s -∗ WP c (k ⟨⟩) Q) -∗ WP c (.op (.enqueueDma (nD := nD) (τ := τ) (aB off inb) (.here (lB off' inb')) (.dma sm) hsrc hdst hsem) k) Q) := by
  subst hsm
  unfold Lc
  iintro ⟨⟨%f, HL⟩, Hv, HA⟩ Hk
  have hsub : aset (ck (devZ c) s.val) p (devQ c) ⊆ aRest c := by
    intro i hi
    rw [mem_aset] at hi
    have hne : (ck (devZ c) s.val).val ≠ (devZ c + 3).val := fun h => ck_ne (devZ c) s (Fin.ext h)
    have hp := p.isLt
    simp only [aRest, Finset.mem_filter, Finset.mem_univ, true_and]
    omega
  ihave HA' := ((pointsTo_split_subset hsub).1) $$ HA
  icases HA' with ⟨HB, HA⟩
  ihave HB' := (Entails.of_eq (pts_aB c (inb := inb) (ck (devZ c) s.val) p (devQ c) ho (aV m c)).symm) $$ HB
  iapply (Transfers.wp_dmaLocal EC 𝒱₀ (c : Thread nD τ) none () ((cc0_scratch1 : Ref sig .tc).dmaCredit S512x512 .f32) rfl
    (sig.dmaCredit_pos _ _ _ _ _ (Finset.prod_pos fun i _ => (by decide : ∀ i, 0 < S512x512.size i) i)) (Finset.subset_univ _)) $$ [HB' HL Hv]
  · isplitl [HB']; · iexact HB'
    isplitl [HL]; · iexact HL
    iexact Hv
  iintro HF
  iapply Hk
  unfold Lf
  iexists _
  isplitl [HF]; · iexact HF
  iintro ⟨HL, HB⟩
  have hz : (![0, 0] : Fin 2 → ℕ) = fun _ => 0 := funext fun a => by fin_cases a <;> rfl
  have e : (lB off' inb').view.write (Elt F) f ((aB off inb).view.read (Elt F) (aV m c)) Finset.univ = LV m c p s := by
    refine (Memref.write_access_unit_zero_univ (Elt F) cc0_scratch1 (ho'.trans hz) _ f _).trans (funext fun x => ?_)
    rw [eq_ix2 x]
    exact read_aB m c (ck (devZ c) s.val) p ho _ _
  isplitl [HL]
  · ihave HL' := (Entails.of_eq (congrArg (fun g : Buf (Elt F) (lLoc c) => (lLoc c ↦{fullShare} g : sProp 𝕄)) e)) $$ HL
    iexact HL'
  · ihave HB' := (Entails.of_eq (pts_aB c (inb := inb) (ck (devZ c) s.val) p (devQ c) ho (aV m c))) $$ HB
    iapply ((pointsTo_split_subset hsub).2)
    isplitl [HB']; · iexact HB'
    iexact HA

theorem copy_wait (c : Dev nD) (p : Fin 4) (s : Fin 3) {n w : ℕ} {sm : DmaSem sig} (hsm : sm = locS)
    {sp sp' : Space} {s' : Shape} {e e' : EltTy} {src : Memref sig .tc sp' s' e'} {dst : Memref sig .tc sp S512x512 e}
    (hN : dst.view.dmaCredit = (cc0_scratch1 : Ref sig .tc).dmaCredit S512x512 .f32) {hsrc : src.view.WordExact} {hdst : dst.view.WordExact}
    {α : Type} {Q : α → sProp 𝕄} {k : PUnit → Prog (TpuEff nD τ sig (Elt F) Λ₀ .tc) α} :
    Inv m K ⊢ iprop(St m c n w -∗ Lf m c p s -∗ (St m c n w -∗ Lv m c p s -∗ WP c (k ⟨⟩) Q) -∗ WP c (.op (.waitDma2 sm src dst hsrc hdst) k) Q) := by
  subst hsm
  iintro #HI HSt HL Hk
  unfold St Lf
  icases HSt with ⟨%W, HO, HB⟩
  icases HL with ⟨%D, HF, HD⟩
  ihave Hl := (Inv_lev m K) $$ HI
  iapply (Transfers.wp_waitLocalO EC 𝒱₀ (c : Thread nD τ) none () hN) $$ [HF HO Hl]
  · isplitl [HF]; · iexact HF
    isplitl [HO]; · iexact HO
    iapply (mayWait c (.dma locS) n (fun t' _ => by
        rw [show cls (.dma locS) = none by decide +kernel]; exact Nat.succ_pos _)); iexact Hl
  iintro ⟨Hd, Hv, HO⟩
  ihave Hd' := HD $$ Hd
  icases Hd' with ⟨HL, HA⟩
  iapply Hk $$ [HO HB]
  · iexists _
    isplitl [HO]; · iexact HO
    iexact HB
  unfold Lv
  isplitl [HL]; · iexact HL
  isplitl [Hv]; · iexact Hv
  iexact HA

end Cert.RingProof

end
-- ==== Proof.Mem.lean ====
/-
# Loads, stores and the values they carry

The body's loads and stores of a slot, of the staged block of the operand, of a block of the output and of the scale, and
the values the additions produce.
-/
module

public import proofs.«01_k».proof.Proof.Steps

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores -/

/-- A slot's contents as the body's loads present them. -/
def slotV (p : Fin 4) (s : Fin 3) (f : S4x3x512x512.Idx → F .f32) : Vec F S1x1x512x512 .f32 := fun i => f (ix4 p s (i 2) (i 3))

theorem emb_slot (p : Fin 4) (s : Fin 3) (inb : ∀ a, (![p.val, s.val, 0, 0] : Fin 4 → ℕ) a + S1x1x512x512.size a ≤ S4x3x512x512.size a) (i : S1x1x512x512.Idx) :
    (Rect.unit (s := S4x3x512x512) ![p.val, s.val, 0, 0] S1x1x512x512.size inb).emb i = ix4 p s (i 2) (i 3) := by
  have h0 : (i 0).val = 0 := by have : (i 0).val < 1 := (i 0).isLt; omega
  have h1 : (i 1).val = 0 := by have : (i 1).val < 1 := (i 1).isLt; omega
  funext a
  match a with
  | 0 => refine Fin.ext ?_; show p.val + 1 * (i 0).val = p.val; omega
  | 1 => refine Fin.ext ?_; show s.val + 1 * (i 1).val = s.val; omega
  | 2 => refine Fin.ext ?_; show 0 + 1 * (i 2).val = (i 2).val; omega
  | 3 => refine Fin.ext ?_; show 0 + 1 * (i 3).val = (i 3).val; omega

theorem load_c (c : Dev nD) (p : Fin 4) (s : Fin 3) (f : S4x3x512x512.Idx → F .f32) {off : Fin 4 → ℕ} (ho : off = ![p.val, s.val, 0, 0]) {inb} {hl}
    {α : Type} {Q : α → sProp 𝕄} {k : Vec F S1x1x512x512 .f32 → Prog (TpuEff nD τ sig (Elt F) Λ₀ .tc) α} :
    cP c p s f ⊢ iprop((cP c p s f -∗ WP c (k (slotV p s f)) Q)
      -∗ WP c (.op (.load cM (Rect.unit (s := S4x3x512x512) off S1x1x512x512.size inb).toLoadRect hl) k) Q) := by
  have e : (cM : Memref sig .tc .vmem S4x3x512x512 .f32).view.readAt (Elt F) (Rect.unit (s := S4x3x512x512) off S1x1x512x512.size inb).toLoadRect f = slotV p s f := by
    subst ho
    funext i
    exact congrArg f (emb_slot p s inb i)
  rw [← e]
  refine wp_load 𝒱₀ (c : Thread nD τ) none Set.univ (m := cM) ?_
  rw [← rect_cset (inb := inb) p s ho]
  intro i hi
  obtain ⟨a, ha, rfl⟩ := Finset.mem_map.mp hi
  exact ha

theorem load_l (c : Dev nD) (p : Fin 4) (s : Fin 3) {off : Fin 2 → ℕ} (ho : off = ![0, 0]) {inb} {hl}
    {α : Type} {Q : α → sProp 𝕄} {k : Vec F S512x512 .f32 → Prog (TpuEff nD τ sig (Elt F) Λ₀ .tc) α} :
    Lv m c p s ⊢ iprop((Lv m c p s -∗ WP c (k (LV m c p s)) Q)
      -∗ WP c (.op (.load lM (Rect.unit (s := S512x512) off S512x512.size inb).toLoadRect hl) k) Q) := by
  have hz : (![0, 0] : Fin 2 → ℕ) = fun _ => 0 := funext fun a => by fin_cases a <;> rfl
  have e : (lM : Memref sig .tc .vmem S512x512 .f32).view.readAt (Elt F) (Rect.unit (s := S512x512) off S512x512.size inb).toLoadRect (LV m c p s) = LV m c p s :=
    Memref.readAt_unit_zero (Elt F) cc0_scratch1 (ho.trans hz) _ _
  unfold Lv
  iintro ⟨H, HR⟩ Hk
  iapply (wp_load 𝒱₀ (c : Thread nD τ) none Set.univ (m := lM) (Finset.subset_univ _)) $$ H
  iintro H
  rw [e]
  iapply Hk
  isplitl [H]; · iexact H
  iexact HR

theorem store_c (c : Dev nD) (p : Fin 4) (s : Fin 3) (f : S4x3x512x512.Idx → F .f32) {off : Fin 4 → ℕ} (ho : off = ![p.val, s.val, 0, 0]) {inb}
    {w : Vec F S1x1x512x512 .f32} (hw : w = slotV p s (CA m c)) {hx hm}
    {α : Type} {Q : α → sProp 𝕄} {k : PUnit → Prog (TpuEff nD τ sig (Elt F) Λ₀ .tc) α} :
    cP c p s f ⊢ iprop((cP c p s (CA m c) -∗ WP c (k ⟨⟩) Q)
      -∗ WP c (.op (.store cM (Rect.unit (s := S4x3x512x512) off S1x1x512x512.size inb) w Finset.univ hx hm) k) Q) := by
  have hset : (cM.access (Rect.unit (s := S4x3x512x512) off S1x1x512x512.size inb)).set = cset p s := by
    show ((View.whole cc0_scratch0).slice _).set = _
    rw [View.set_slice_whole]; exact rect_cset p s ho
  have hr : (cM.access (Rect.unit (s := S4x3x512x512) off S1x1x512x512.size inb)).read (Elt F) (CA m c) = w := by
    rw [hw]; subst ho
    funext x
    exact congrArg (CA m c) (emb_slot p s inb x)
  have e : (cP c p s ((cM.access (Rect.unit (s := S4x3x512x512) off S1x1x512x512.size inb)).write (Elt F) f w Finset.univ) : sProp 𝕄) = cP c p s (CA m c) :=
    pointsTo_congr (ℓ := cLoc c) (I := cset p s) fun i hi =>
      write_of_read (cM.access (Rect.unit (s := S4x3x512x512) off S1x1x512x512.size inb)) f (CA m c) w hr i (by rw [hset]; exact hi)
  iintro H Hk
  iapply (wp_store 𝒱₀ (c : Thread nD τ) none Set.univ (m := cM) (r := Rect.unit (s := S4x3x512x512) off S1x1x512x512.size inb) (Mk := Finset.univ) (S := cset p s) (f := f) (fun i hi => by rw [← hset]; exact hi)) $$ H
  iintro H
  iapply Hk
  ihave H' := (Entails.of_eq e) $$ H
  iexact H'

/-- A load whose value is not used, of a block of the output held at any contents. -/
theorem load_o (c : Dev nD) {S : Finset (Fin 5 × Fin 4)} {off size : Fin 2 → ℕ} {inb} (ho : (Rect.unit (s := S2048x2048) off size inb).set = osF S)
    (f : S2048x2048.Idx → F .f32) {hl} {α : Type} {Q : α → sProp 𝕄} {k : Vec F ⟨2, size⟩ .f32 → Prog (TpuEff nD τ sig (Elt F) Λ₀ .tc) α} :
    (oLoc c ↦[osF S]{fullShare} (f : Buf (Elt F) (oLoc c)) : sProp 𝕄)
      ⊢ iprop(((oLoc c ↦[osF S]{fullShare} (f : Buf (Elt F) (oLoc c))) -∗ WP c (k (fun x => f ((Rect.unit (s := S2048x2048) off size inb).emb x))) Q)
      -∗ WP c (.op (.load oM (Rect.unit (s := S2048x2048) off size inb).toLoadRect hl) k) Q) := by
  iintro H Hk
  iapply (wp_load 𝒱₀ (c : Thread nD τ) none Set.univ (m := oM) (S := osF S) (f := f) (fun i hi => by
    obtain ⟨a, ha, rfl⟩ := Finset.mem_map.mp hi
    rw [← ho]; exact ha)) $$ H
  iintro H
  iapply Hk $$ H

theorem store_o (c : Dev nD) {S : Finset (Fin 5 × Fin 4)} {off size : Fin 2 → ℕ} {inb} (ho : (Rect.unit (s := S2048x2048) off size inb).set = osF S)
    (f g : S2048x2048.Idx → F .f32) {w : Vec F ⟨2, size⟩ .f32} (hw : ∀ x, w x = g ((Rect.unit (s := S2048x2048) off size inb).emb x)) {hx hm}
    {α : Type} {Q : α → sProp 𝕄} {k : PUnit → Prog (TpuEff nD τ sig (Elt F) Λ₀ .tc) α} :
    (oLoc c ↦[osF S]{fullShare} (f : Buf (Elt F) (oLoc c)) : sProp 𝕄)
      ⊢ iprop(((oLoc c ↦[osF S]{fullShare} (g : Buf (Elt F) (oLoc c))) -∗ WP c (k ⟨⟩) Q)
      -∗ WP c (.op (.store oM (Rect.unit (s := S2048x2048) off size inb) w Finset.univ hx hm) k) Q) := by
  have hset : (oM.access (Rect.unit (s := S2048x2048) off size inb)).set = osF S := by
    show ((View.whole cc0_stg1_0).slice _).set = _
    rw [View.set_slice_whole]; exact ho
  have e : ((oLoc c ↦[osF S]{fullShare} ((oM.access (Rect.unit (s := S2048x2048) off size inb)).write (Elt F) f w Finset.univ : Buf (Elt F) (oLoc c))) : sProp 𝕄)
      = oLoc c ↦[osF S]{fullShare} (g : Buf (Elt F) (oLoc c)) :=
    pointsTo_congr (ℓ := oLoc c) (I := osF S) fun i hi =>
      write_of_read (oM.access (Rect.unit (s := S2048x2048) off size inb)) f g w (funext fun x => (hw x).symm) i (by rw [hset]; exact hi)
  iintro H Hk
  iapply (wp_store 𝒱₀ (c : Thread nD τ) none Set.univ (m := oM) (r := Rect.unit (s := S2048x2048) off size inb) (Mk := Finset.univ) (S := osF S) (f := f) (fun i hi => by rw [← hset]; exact hi)) $$ H
  iintro H
  iapply Hk
  ihave H' := (Entails.of_eq e) $$ H
  iexact H'

/-- The scale, as the body loads it. -/
abbrev gP (c : Dev nD) : sProp 𝕄 := gsLoc c ↦{fullShare} (gV m c : Buf (Elt F) (gsLoc c))

theorem load_g (c : Dev nD) {off : Fin 1 → ℕ} (ho : off = ![0]) {inb} {hl}
    {α : Type} {Q : α → sProp 𝕄} {k : Vec F S2048 .f32 → Prog (TpuEff nD τ sig (Elt F) Λ₀ .tc) α} :
    gP m c ⊢ iprop((gP m c -∗ WP c (k (gV m c)) Q)
      -∗ WP c (.op (.load gM (Rect.unit (s := S2048) off S2048.size inb).toLoadRect hl) k) Q) := by
  have hz : (![0] : Fin 1 → ℕ) = fun _ => 0 := funext fun a => by fin_cases a; rfl
  have e : (gM : Memref sig .tc .vmem S2048 .f32).view.readAt (Elt F) (Rect.unit (s := S2048) off S2048.size inb).toLoadRect (gV m c) = gV m c :=
    Memref.readAt_unit_zero (Elt F) cc0_stg0_0 (ho.trans hz) _ _
  iintro H Hk
  iapply (wp_load 𝒱₀ (c : Thread nD τ) none Set.univ (m := gM) (Finset.subset_univ _)) $$ H
  iintro H
  rw [e]
  iapply Hk $$ H

/-! ## The values added and stored -/

theorem add_slot (c : Dev nD) (p : Fin 4) (s : Fin 3) : k0_pay1 (slotV p s (CR m c)) (LV m c p s) = slotV p s (CA m c) := by
  funext i
  obtain ⟨x, rfl⟩ := (Shape.reshapeEquiv (s := S1x1x512x512) (s' := S512x512) shapeCasts_S1x1x512x512_S512x512).surjective i
  have e1 : Shape.reshapeEquiv shapeCasts_S512x512_S1x1x512x512 (Shape.reshapeEquiv (s := S1x1x512x512) (s' := S512x512) shapeCasts_S1x1x512x512_S512x512 x) = x := by
    rw [← Shape.reshapeEquiv_symm shapeCasts_S1x1x512x512_S512x512, Equiv.symm_apply_apply]
  show FloatOps.addf (slotV p s (CR m c) (Shape.reshapeEquiv _ (Shape.reshapeEquiv _ _))) (LV m c p s (Shape.reshapeEquiv _ _)) = _
  rw [e1]
  have e2 : Shape.reshapeEquiv (s := S1x1x512x512) (s' := S512x512) shapeCasts_S1x1x512x512_S512x512 x = ix4 (⟨0, by decide⟩ : Fin 1) (⟨0, by decide⟩ : Fin 1) (x 0) (x 1) :=
    (congrArg _ (eq_ix2 x)).trans (reshapeEquiv_ix2_11ab (a := 512) (b := 512) _ (x 0) (x 1))
  rw [e2]
  show FloatOps.addf _ (LV m c p s x) = _
  rw [eq_ix2 x]
  rfl

theorem add_out (c : Dev nD) (p : Fin 4) (r j : Fin 512) :
    k0_pay5 (slotV p 2 (CR m c)) (LV m c p 2) (ix2 r j) = av m 2 (devQ c) (devZ c) (512 * p.val + r.val) j.val := by
  show FloatOps.addf (slotV p 2 (CR m c) (Shape.reshapeEquiv _ (ix2 r j))) (LV m c p 2 (ix2 r j)) = _
  rw [reshapeEquiv_ix2_11ab]
  rfl

/-- The last step's sum is the output's block. -/
theorem out_block (c : Dev nD) (p : Fin 4) {off : Fin 2 → ℕ} {inb} (ho : off = ![512 * p.val, 512 * (devQ c).val]) (x : S512x512.Idx) :
    k0_pay5 (slotV p 2 (CR m c)) (LV m c p 2) x = Y m (devZ c) ((Rect.unit (s := S2048x2048) off S512x512.size inb).emb x) := by
  subst ho
  refine (congrArg _ (eq_ix2 x)).trans ((add_out m c p (x 0) (x 1)).trans ?_)
  have hr : (x 0).val < 512 := (x 0).isLt
  have hj : (x 1).val < 512 := (x 1).isLt
  have hq := (devQ c).isLt
  show _ = av m 2 (blk (512 * (devQ c).val + 1 * (x 1).val)) (devZ c) (512 * p.val + 1 * (x 0).val) ((512 * (devQ c).val + 1 * (x 1).val) % 512)
  rw [show blk (512 * (devQ c).val + 1 * (x 1).val) = devQ c from Fin.ext (by show (512 * (devQ c).val + 1 * (x 1).val) / 512 % 4 = _; omega),
    show (512 * (devQ c).val + 1 * (x 1).val) % 512 = (x 1).val by omega, show 512 * p.val + 1 * (x 0).val = 512 * p.val + (x 0).val by omega]

end Cert.RingProof

end
-- ==== Proof.Places.lean ====
/-
# Places: devices, offsets, rectangles and row bands

The printed device numbers and offsets in terms of a device's column and ring place, the output rectangles as sets of
(band, column block) places, and the loads and stores of a whole row band.
-/
module

public import proofs.«01_k».proof.Proof.Mem

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-! ## Devices and offsets -/

theorem dev_lft : ∀ c, (⟨k0_dev1 c, k0_dev1_lt c⟩ : Dev nD) = lft c := by decide +kernel
theorem dev_rgt : ∀ c, (⟨k0_dev2 c, k0_dev2_lt c⟩ : Dev nD) = rgt c := by decide +kernel
theorem dev_xp : ∀ c, (⟨k0_dev3 c, k0_dev3_lt c⟩ : Dev nD) = xp c := by decide +kernel
theorem dev_yp : ∀ c, (⟨k0_dev4 c, k0_dev4_lt c⟩ : Dev nD) = yp c := by decide +kernel

/-- The printed receivers of the ring steps, of the copies to the x peer and of those to the y peer, as they are printed. -/
def toR : Fin 12 → Dev nD → ℕ :=
  ![k0_dev5, k0_dev6, k0_dev7, k0_dev8, k0_dev9, k0_dev10, k0_dev11, k0_dev12, k0_dev15, k0_dev17, k0_dev19, k0_dev20]
def toX : Fin 6 → Dev nD → ℕ := ![k0_dev13, k0_dev14, k0_dev21, k0_dev23, k0_dev26, k0_dev27]
def toY : Fin 5 → Dev nD → ℕ := ![k0_dev16, k0_dev18, k0_dev22, k0_dev24, k0_dev25]

theorem toR_val : ∀ i c, toR i c = (rgt c).val := by decide +kernel
theorem toX_val : ∀ i c, toX i c = (xp c).val := by decide +kernel
theorem toY_val : ∀ i c, toY i c = (yp c).val := by decide +kernel

theorem toR_dev (i : Fin 12) (c : Dev nD) {h : toR i c < 16} : (⟨toR i c, h⟩ : Dev nD) = rgt c := Fin.ext (toR_val i c)
theorem toX_dev (i : Fin 6) (c : Dev nD) {h : toX i c < 16} : (⟨toX i c, h⟩ : Dev nD) = xp c := Fin.ext (toX_val i c)
theorem toY_dev (i : Fin 5) (c : Dev nD) {h : toY i c < 16} : (⟨toY i c, h⟩ : Dev nD) = yp c := Fin.ext (toY_val i c)

theorem off_src : ∀ (c : Dev nD) (p : Fin 4), k0_off1 c (BitVec.ofNat 32 (512 * p.val)) = ![0, 2048 * (devZ c + 3).val + 512 * p.val, 512 * (devQ c).val] := by
  decide +kernel
theorem off_loc : ∀ (c : Dev nD) (p : Fin 4) (s : Fin 3), k0_off2 c (BitVec.ofNat 32 s.val) (BitVec.ofNat 32 (512 * p.val))
    = ![0, 2048 * (ck (devZ c) s.val).val + 512 * p.val, 512 * (devQ c).val] := by
  decide +kernel

/-- The first row of a band, and its number of rows. -/
def lo : Fin 5 → ℕ := ![0, 512, 1024, 1536, 1792]
def ht : Fin 5 → ℕ := ![512, 512, 512, 256, 256]

/-- The printed offsets of the blocks the sums are stored in, by part; of the blocks of one column block, and of a pair of
    column blocks, that are sent, by band. -/
def stOff : Fin 4 → Dev nD → Fin 2 → ℕ := ![k0_off3, k0_off5, k0_off9, k0_off12]
def colOff : Fin 5 → Dev nD → Fin 2 → ℕ := ![k0_off4, k0_off6, k0_off10, k0_off13, k0_off14]
def pairOff : Fin 4 → Dev nD → Fin 2 → ℕ := ![k0_off7, k0_off8, k0_off11, k0_off15]

theorem st_off : ∀ (p : Fin 4) (c : Dev nD), stOff p c = ![512 * p.val, 512 * (devQ c).val] := by decide +kernel
theorem col_off : ∀ (b : Fin 5) (c : Dev nD), colOff b c = ![lo b, 512 * (devQ c).val] := by decide +kernel
theorem pair_off : ∀ (b : Fin 4) (c : Dev nD), pairOff b c = ![lo b.castSucc, 1024 * ((devQ c).val / 2)] := by decide +kernel
theorem off_last : ∀ c : Dev nD, k0_off16 c = ![lo 4, 512 * (qy (devQ c)).val] := by decide +kernel

/-! ## Rectangles -/

/-- `B` is the bands of the `h` rows from `r₀`. -/
def Rows (r₀ h : ℕ) (B : Finset (Fin 5)) : Prop := ∀ r < 2048, (r₀ ≤ r ∧ r < r₀ + h) ↔ band r ∈ B

theorem rows_band (b : Fin 5) : Rows (lo b) (ht b) {b} := by
  intro r hr
  rw [Finset.mem_singleton, Fin.ext_iff]
  unfold band
  match b with
  | 0 | 1 | 2 | 3 | 4 => simp only [lo, ht]; split_ifs <;> simp <;> omega

/-- The bands of a part's rows. -/
def pb : Fin 4 → Finset (Fin 5) := ![{0}, {1}, {2}, {3, 4}]

theorem rows_pb (p : Fin 4) : Rows (512 * p.val) 512 (pb p) := by
  intro r hr
  unfold band
  match p with
  | 0 | 1 | 2 | 3 => simp only [pb]; split_ifs <;> simp <;> omega

theorem rect_col {off : Fin 2 → ℕ} {r₀ h : ℕ} {inb : ∀ a, off a + (![h, 512] : Fin 2 → ℕ) a ≤ S2048x2048.size a} {B : Finset (Fin 5)} {q : Fin 4} (hB : Rows r₀ h B) (ho : off = ![r₀, 512 * q.val]) :
    (Rect.unit (s := S2048x2048) off ![h, 512] inb).set = osF (B ×ˢ {q}) := by
  subst ho
  refine rect_osF B {q} hB fun j hj => ?_
  have hq := q.isLt
  rw [Finset.mem_singleton, Fin.ext_iff]
  show (512 * q.val ≤ j ∧ j < 512 * q.val + 512) ↔ j / 512 % 4 = q.val
  omega

theorem rect_pair {off : Fin 2 → ℕ} {r₀ h : ℕ} {inb : ∀ a, off a + (![h, 1024] : Fin 2 → ℕ) a ≤ S2048x2048.size a} {B : Finset (Fin 5)} {q : Fin 4} (hB : Rows r₀ h B) (ho : off = ![r₀, 1024 * (q.val / 2)]) :
    (Rect.unit (s := S2048x2048) off ![h, 1024] inb).set = osF (B ×ˢ {q, qx q}) := by
  subst ho
  refine rect_osF B {q, qx q} hB fun j hj => ?_
  have hx : ∀ q : Fin 4, (qx q).val = 2 * (q.val / 2) + (1 - q.val % 2) := by decide
  have hq := q.isLt
  rw [Finset.mem_insert, Finset.mem_singleton, Fin.ext_iff, Fin.ext_iff, hx]
  show (1024 * (q.val / 2) ≤ j ∧ j < 1024 * (q.val / 2) + 1024) ↔ j / 512 % 4 = q.val ∨ j / 512 % 4 = _
  omega

theorem rect_band {off : Fin 2 → ℕ} {r₀ h : ℕ} {inb : ∀ a, off a + (![h, 2048] : Fin 2 → ℕ) a ≤ S2048x2048.size a} {B : Finset (Fin 5)} (hB : Rows r₀ h B) (ho : off = ![r₀, 0]) :
    (Rect.unit (s := S2048x2048) off ![h, 2048] inb).set = osF (B ×ˢ Finset.univ) := by
  subst ho
  refine rect_osF B Finset.univ hB fun j hj => ?_
  simp only [Finset.mem_univ, iff_true]
  show 0 ≤ j ∧ j < 0 + 2048
  omega

/-! ## Blocks and bands of the output -/

/-- The device's own block of part `p`, before and after its last sum is stored. -/
theorem store_blk (c : Dev nD) (p : Fin 4) {S : Finset (Fin 5 × Fin 4)} (hS : pb p ×ˢ {devQ c} = S) {off : Fin 2 → ℕ} (ho : off = ![512 * p.val, 512 * (devQ c).val]) {inb}
    {w : Vec F S512x512 .f32} (hw : w = k0_pay5 (slotV p 2 (CR m c)) (LV m c p 2)) {hx hm}
    {α : Type} {Q : α → sProp 𝕄} {k : PUnit → Prog (TpuEff nD τ sig (Elt F) Λ₀ .tc) α} :
    oA (F := F) c S ⊢ iprop((oP m c S -∗ WP c (k ⟨⟩) Q)
      -∗ WP c (.op (.store oM (Rect.unit (s := S2048x2048) off S512x512.size inb) w Finset.univ hx hm) k) Q) := by
  subst hw hS
  iintro ⟨%f, H⟩
  iapply (store_o c (rect_col (inb := inb) (rows_pb p) ho) f (Y m (devZ c)) (out_block m c p ho)) $$ H

/-- A load of the device's own block, whose value is not used. -/
theorem load_blk (c : Dev nD) (p : Fin 4) {S : Finset (Fin 5 × Fin 4)} (hS : pb p ×ˢ {devQ c} = S) {off : Fin 2 → ℕ} (ho : off = ![512 * p.val, 512 * (devQ c).val]) {inb} {hl}
    {α : Type} {Q : α → sProp 𝕄} {k : Vec F S512x512 .f32 → Prog (TpuEff nD τ sig (Elt F) Λ₀ .tc) α} :
    oA (F := F) c S ⊢ iprop((∀ v, oA (F := F) c S -∗ WP c (k v) Q)
      -∗ WP c (.op (.load oM (Rect.unit (s := S2048x2048) off S512x512.size inb).toLoadRect hl) k) Q) := by
  subst hS
  iintro ⟨%f, H⟩ Hk
  iapply (load_o c (rect_col (inb := inb) (rows_pb p) ho) f) $$ H
  iintro H
  iapply Hk
  iexists f
  iexact H

/-- The elements of the output in `S`, normalised. -/
abbrev oN (c : Dev nD) (S : Finset (Fin 5 × Fin 4)) : sProp 𝕄 := oLoc c ↦[osF S]{fullShare} (NY m c : Buf (Elt F) (oLoc c))
/-- Part `p`'s rows, all columns. -/
def rb (p : Fin 4) : Finset (Fin 5 × Fin 4) := pb p ×ˢ Finset.univ

theorem load_rows (c : Dev nD) (p : Fin 4) {off : Fin 2 → ℕ} (ho : off = ![512 * p.val, 0]) {inb} {hl}
    {α : Type} {Q : α → sProp 𝕄} {k : Vec F S512x2048 .f32 → Prog (TpuEff nD τ sig (Elt F) Λ₀ .tc) α} :
    oP m c (rb p) ⊢ iprop((oP m c (rb p) -∗ WP c (k (YB m (devZ c) p)) Q)
      -∗ WP c (.op (.load oM (Rect.unit (s := S2048x2048) off S512x2048.size inb).toLoadRect hl) k) Q) := by
  have e : (fun x => Y m (devZ c) ((Rect.unit (s := S2048x2048) off S512x2048.size inb).emb x)) = YB m (devZ c) p := by
    subst ho
    funext x
    unfold YB
    congr 1
    funext a
    match a with
    | 0 => refine Fin.ext ?_; show 512 * p.val + 1 * (x 0).val = 512 * p.val + (x 0).val; omega
    | 1 => refine Fin.ext ?_; show 0 + 1 * (x 1).val = (x 1).val; omega
  rw [← e]
  exact load_o c (rect_band (inb := inb) (rows_pb p) ho) (Y m (devZ c))

theorem store_rows (c : Dev nD) (p : Fin 4) {off : Fin 2 → ℕ} (ho : off = ![512 * p.val, 0]) {inb}
    {w : Vec F S512x2048 .f32} (hw : w = k0_pay14 (YB m (devZ c) p) (gV m c)) {hx hm}
    {α : Type} {Q : α → sProp 𝕄} {k : PUnit → Prog (TpuEff nD τ sig (Elt F) Λ₀ .tc) α} :
    oP m c (rb p) ⊢ iprop((oN m c (rb p) -∗ WP c (k ⟨⟩) Q)
      -∗ WP c (.op (.store oM (Rect.unit (s := S2048x2048) off S512x2048.size inb) w Finset.univ hx hm) k) Q) := by
  refine store_o c (rect_band (inb := inb) (rows_pb p) ho) (Y m (devZ c)) (NY m c) fun x => ?_
  subst hw ho
  have h0 : (x 0).val < 512 := (x 0).isLt
  have hp := p.isLt
  show _ = k0_pay14 (F := F) (YB m (devZ c) ⟨(512 * p.val + 1 * (x 0).val) / 512, _⟩) (gV m c)
    (ix2 (⟨(512 * p.val + 1 * (x 0).val) % 512, _⟩ : Fin 512) (⟨0 + 1 * (x 1).val, _⟩ : Fin 2048))
  have e1 : (⟨(512 * p.val + 1 * (x 0).val) / 512, by omega⟩ : Fin 4) = p := Fin.ext (by show (512 * p.val + 1 * (x 0).val) / 512 = p.val; omega)
  rw [e1]
  congr 1
  funext a
  match a with
  | 0 => refine Fin.ext ?_; show (x 0).val = (512 * p.val + 1 * (x 0).val) % 512; omega
  | 1 => refine Fin.ext ?_; show (x 1).val = 0 + 1 * (x 1).val; omega

/-- The four normalised bands are the whole output. -/
theorem oN_all (c : Dev nD) : iprop(oN m c (rb 0) ∗ oN m c (rb 1) ∗ oN m c (rb 2) ∗ oN m c (rb 3)) ⊢ (oLoc c ↦{fullShare} (NY m c : Buf (Elt F) (oLoc c))) := by
  have j : ∀ {S S' : Finset (Fin 5 × Fin 4)}, Disjoint S S' → iprop(oN m c S ∗ oN m c S') ⊢ oN m c (S ∪ S') := fun {S S'} h => by
    unfold oN; rw [osF_union]; exact (pointsTo_union (osF_disjoint h)).2
  iintro ⟨H0, H1, H2, H3⟩
  ihave H := (j (S := rb 2) (S' := rb 3) (by decide)) $$ [H2 H3]
  · isplitl [H2]; · iexact H2
    iexact H3
  ihave H := (j (S := rb 1) (S' := rb 2 ∪ rb 3) (by decide)) $$ [H1 H]
  · isplitl [H1]; · iexact H1
    iexact H
  ihave H := (j (S := rb 0) (S' := rb 1 ∪ (rb 2 ∪ rb 3)) (by decide)) $$ [H0 H]
  · isplitl [H0]; · iexact H0
    iexact H
  have e : (oN m c (rb 0 ∪ (rb 1 ∪ (rb 2 ∪ rb 3))) : sProp 𝕄) = (oLoc c ↦{fullShare} (NY m c : Buf (Elt F) (oLoc c))) := by
    unfold oN
    rw [show rb 0 ∪ (rb 1 ∪ (rb 2 ∪ rb 3)) = Finset.univ by decide, osF_univ]
  ihave H' := (Entails.of_eq e) $$ H
  iexact H'

end Cert.RingProof

end
-- ==== Proof.Kit.lean ====
/-
# Rules the parts of the body use

The waits with their payload named, the addition of a copied block to a received slot as one rule, and the application of
a part of the body to the kernel's buffers and semaphores.
-/
module

public import proofs.«01_k».proof.Proof.Places

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-- A part of the body at the kernel's buffers and semaphores. -/
abbrev onBufs {β : Type 1} (f : (b0 : Memref sig .tc .hbm S1x8192x2048 .f32) → b0.IsWhole → (b1 : Memref sig .tc .vmem S2048 .f32) → b1.IsWhole → (b2 : Memref sig .tc .vmem S2048x2048 .f32) → b2.IsWhole → (b3 : Memref sig .tc .vmem S4x3x512x512 .f32) → b3.IsWhole → (b4 : Memref sig .tc .vmem S512x512 .f32) → b4.IsWhole → DmaSems sig S4x3 → DmaSems sig S4x3 → DmaSems sig S4 → DmaSems sig S4 → DmaSems sig S4 → DmaSems sig S4 → DmaSems sig S_ → DmaSems sig S_ → DmaSems sig S_ → DmaSems sig S_ → DmaSems sig S_ → DmaSems sig S_ → DmaSems sig S_ → β) : β :=
  f aM (Memref.isWhole_whole _) gM (Memref.isWhole_whole _) oM (Memref.isWhole_whole _) cM (Memref.isWhole_whole _) lM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14

theorem ret_intro (c : Dev nD) {α : Type} (a : α) (Q : α → sProp 𝕄) : Q a ⊢ WP c (.ret a) Q := by
  unfold WP
  rw [wp_ret]
  iintro H
  imodintro
  iexact H

/-! ## Waits -/

theorem wait_sz (c : Dev nD) (p : Fin 4) (s : Fin 3) {n w : ℕ} (hn : rank (.z p s) < n) (hw : w = 2 * wrank (.z p s)) {sS : DmaSem sig} (hsS : sS = sSem (.z p s))
    {sp sp' : Space} {s₁ s₂ : Shape} {e e' : EltTy} {src : Memref sig .tc sp' s₂ e'} {dst : Memref sig .tc sp s₁ e}
    (hN : dst.view.dmaCredit = N (.z p s)) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ WP c (k ⟨⟩) Q) -∗ WP c (.op (.waitDma2 sS src dst hsrc hdst) k) Q) := by
  iintro HI HSt Hk
  iapply (wait_s m K c (.z p s) hn hw hsS hN) $$ HI HSt
  iintro HSt -
  iapply Hk $$ HSt

theorem wait_rz (c : Dev nD) (p : Fin 4) (s : Fin 3) {n w : ℕ} (hn : rank (.z p s) < n) (hw : w = 2 * wrank (.z p s) + 1) {rS : DmaSem sig} (hrS : rS = rSem (.z p s))
    {sp sp' : Space} {s₁ s₂ : Shape} {e e' : EltTy} {src : Memref sig .tc sp' s₂ e'} {dst : Memref sig .tc sp s₁ e}
    (hN : dst.view.dmaCredit = N (.z p s)) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ cP c p s (CR m c) -∗ WP c (k ⟨⟩) Q) -∗ WP c (.op (.waitDma2 rS src dst hsrc hdst) k) Q) :=
  wait_r m K c (.z p s) hn hw hrS hN

theorem wait_so (c : Dev nD) (t : T) (ht : isOut t) (S : Finset (Fin 5 × Fin 4)) (hS : oR t (devQ c) = S) {n w : ℕ} (hn : rank t < n) (hw : w = 2 * wrank t) {sS : DmaSem sig} (hsS : sS = sSem t)
    {sp sp' : Space} {s₁ s₂ : Shape} {e e' : EltTy} {src : Memref sig .tc sp' s₂ e'} {dst : Memref sig .tc sp s₁ e}
    (hN : dst.view.dmaCredit = N t) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ oP m c S -∗ WP c (k ⟨⟩) Q) -∗ WP c (.op (.waitDma2 sS src dst hsrc hdst) k) Q) := by
  have h : backS m t c = oP m c S := by
    rw [← hS, ← sendPay_out m ht]
    cases t <;> first | exact ht.elim | rfl
  rw [← h]
  exact wait_s m K c t hn hw hsS hN

theorem wait_ro (c : Dev nD) (t : T) (ht : isOut t) (S : Finset (Fin 5 × Fin 4)) (hS : oR t (devQ (sD t c)) = S) {n w : ℕ} (hn : rank t < n) (hw : w = 2 * wrank t + 1) {rS : DmaSem sig} (hrS : rS = rSem t)
    {sp sp' : Space} {s₁ s₂ : Shape} {e e' : EltTy} {src : Memref sig .tc sp' s₂ e'} {dst : Memref sig .tc sp s₁ e}
    (hN : dst.view.dmaCredit = N t) {hsrc : src.view.WordExact} {hdst : dst.view.WordExact}
    {α : Type} {Q : α → sProp 𝕄} {k : PUnit → Prog (TpuEff nD τ sig (Elt F) Λ₀ .tc) α} :
    Inv m K ⊢ iprop(St m c n w -∗ (St m c n (w + 1) -∗ oP m c S -∗ WP c (k ⟨⟩) Q) -∗ WP c (.op (.waitDma2 rS src dst hsrc hdst) k) Q) := by
  rw [← hS, ← recvPay_out m ht]
  exact wait_r m K c t hn hw hrS hN

/-- The two waits for a ring step, one after the other. -/
theorem wait_z (c : Dev nD) (p : Fin 4) (s : Fin 3) {n w : ℕ} (hn : rank (.z p s) < n) (hw : w = 2 * wrank (.z p s))
    {sS rS : DmaSem sig} (hsS : sS = sSem (.z p s)) (hrS : rS = rSem (.z p s))
    {sp₁ sp₂ sp₃ sp₄ : Space} {s₁ s₂ s₃ s₄ : Shape} {e₁ e₂ e₃ e₄ : EltTy}
    {src : Memref sig .tc sp₁ s₁ e₁} {dst : Memref sig .tc sp₂ s₂ e₂} {src' : Memref sig .tc sp₃ s₃ e₃} {dst' : Memref sig .tc sp₄ s₄ e₄}
    (hN : dst.view.dmaCredit = N (.z p s)) (hN' : dst'.view.dmaCredit = N (.z p s))
    {hsrc : src.view.WordExact} {hdst : dst.view.WordExact} {hsrc' : src'.view.WordExact} {hdst' : dst'.view.WordExact}
    {α : Type} {Q : α → sProp 𝕄} {k : PUnit → Prog (TpuEff nD τ sig (Elt F) Λ₀ .tc) α} :
    Inv m K ⊢ iprop(St m c n w -∗ (St m c n (w + 1 + 1) -∗ cP c p s (CR m c) -∗ WP c (k ⟨⟩) Q)
      -∗ WP c (.op (.waitDma2 sS src dst hsrc hdst) fun _ => .op (.waitDma2 rS src' dst' hsrc' hdst') k) Q) := by
  iintro #HI HSt Hk
  iapply (wait_sz m K c p s hn hw hsS hN) $$ HI HSt
  iintro HSt
  iapply (wait_rz m K c p s hn (by rw [hw]) hrS hN') $$ HI HSt
  iintro HSt HC
  iapply Hk $$ HSt HC

/-- The two waits for a copy of a block of the output: the block sent and the block received, joined. -/
theorem wait_o (c : Dev nD) (t : T) (ht : isOut t) (S S' U : Finset (Fin 5 × Fin 4)) (hS : oR t (devQ c) = S) (hS' : oR t (devQ (sD t c)) = S')
    (hU : Disjoint S S' ∧ U = S ∪ S') {n w : ℕ} (hn : rank t < n) (hw : w = 2 * wrank t)
    {sS rS : DmaSem sig} (hsS : sS = sSem t) (hrS : rS = rSem t)
    {sp₁ sp₂ sp₃ sp₄ : Space} {s₁ s₂ s₃ s₄ : Shape} {e₁ e₂ e₃ e₄ : EltTy}
    {src : Memref sig .tc sp₁ s₁ e₁} {dst : Memref sig .tc sp₂ s₂ e₂} {src' : Memref sig .tc sp₃ s₃ e₃} {dst' : Memref sig .tc sp₄ s₄ e₄}
    (hN : dst.view.dmaCredit = N t) (hN' : dst'.view.dmaCredit = N t)
    {hsrc : src.view.WordExact} {hdst : dst.view.WordExact} {hsrc' : src'.view.WordExact} {hdst' : dst'.view.WordExact}
    {α : Type} {Q : α → sProp 𝕄} {k : PUnit → Prog (TpuEff nD τ sig (Elt F) Λ₀ .tc) α} :
    Inv m K ⊢ iprop(St m c n w -∗ (St m c n (w + 1 + 1) -∗ oP m c U -∗ WP c (k ⟨⟩) Q)
      -∗ WP c (.op (.waitDma2 sS src dst hsrc hdst) fun _ => .op (.waitDma2 rS src' dst' hsrc' hdst') k) Q) := by
  iintro #HI HSt Hk
  iapply (wait_so m K c t ht S hS hn hw hsS hN) $$ HI HSt
  iintro HSt HO
  iapply (wait_ro m K c t ht S' hS' hn (by rw [hw]) hrS hN') $$ HI HSt
  iintro HSt HO'
  ihave HO := ((oP_join m hU).2) $$ [HO HO']
  · isplitl [HO]; · iexact HO
    iexact HO'
  iapply Hk $$ HSt HO

/-! ## The addition of a block -/

/-- A received slot and the copied block are loaded, and their sum is stored in the slot. -/
theorem add_c (c : Dev nD) (p : Fin 4) (s : Fin 3) {pay : Vec F S1x1x512x512 .f32 → Vec F S512x512 .f32 → Vec F S1x1x512x512 .f32}
    (hpay : pay (slotV p s (CR m c)) (LV m c p s) = slotV p s (CA m c)) {off : Fin 4 → ℕ} (ho : off = ![p.val, s.val, 0, 0])
    {off' : Fin 2 → ℕ} (ho' : off' = ![0, 0]) {inb inb'} {hl hl' hl'' hx hm}
    {α : Type} {Q : α → sProp 𝕄} {k : PUnit → Prog (TpuEff nD τ sig (Elt F) Λ₀ .tc) α} :
    Lv m c p s ⊢ iprop(cP c p s (CR m c) -∗ (Lc m c -∗ cP c p s (CA m c) -∗ WP c (k ⟨⟩) Q)
      -∗ WP c (.op (.load cM (Rect.unit (s := S4x3x512x512) off S1x1x512x512.size inb).toLoadRect hl) fun v =>
          .op (.load lM (Rect.unit (s := S512x512) off' S512x512.size inb').toLoadRect hl') fun u =>
          .op (.load cM (Rect.unit (s := S4x3x512x512) off S1x1x512x512.size inb).toLoadRect hl'') fun _ =>
          .op (.store cM (Rect.unit (s := S4x3x512x512) off S1x1x512x512.size inb) (pay v u) Finset.univ hx hm) k) Q) := by
  iintro HL HC Hk
  iapply (load_c c p s (CR m c) ho) $$ HC
  iintro HC
  iapply (load_l m c p s ho') $$ HL
  iintro HL
  iapply (load_c c p s (CR m c) ho) $$ HC
  iintro HC
  iapply (store_c m c p s (CR m c) ho hpay) $$ HC
  iintro HC
  ihave HL' := (Lc_of_Lv m c p s) $$ HL
  iapply Hk $$ HL' HC

/-- A received slot and the copied block are loaded. -/
theorem load_cl (c : Dev nD) (p : Fin 4) (s : Fin 3) {off : Fin 4 → ℕ} (ho : off = ![p.val, s.val, 0, 0])
    {off' : Fin 2 → ℕ} (ho' : off' = ![0, 0]) {inb inb'} {hl hl'}
    {α : Type} {Q : α → sProp 𝕄} {k : Vec F S1x1x512x512 .f32 → Vec F S512x512 .f32 → Prog (TpuEff nD τ sig (Elt F) Λ₀ .tc) α} :
    Lv m c p s ⊢ iprop(cP c p s (CR m c) -∗ (Lc m c -∗ cP c p s (CR m c) -∗ WP c (k (slotV p s (CR m c)) (LV m c p s)) Q)
      -∗ WP c (.op (.load cM (Rect.unit (s := S4x3x512x512) off S1x1x512x512.size inb).toLoadRect hl) fun v =>
          .op (.load lM (Rect.unit (s := S512x512) off' S512x512.size inb').toLoadRect hl') (k v)) Q) := by
  iintro HL HC Hk
  iapply (load_c c p s (CR m c) ho) $$ HC
  iintro HC
  iapply (load_l m c p s ho') $$ HL
  iintro HL
  ihave HL' := (Lc_of_Lv m c p s) $$ HL
  iapply Hk $$ HL' HC

/-- A part's rows are loaded with the scale, and their normalisation is stored. -/
theorem norm_rows (c : Dev nD) (p : Fin 4) {pay : Vec F S512x2048 .f32 → Vec F S2048 .f32 → Vec F S512x2048 .f32}
    (hpay : pay (YB m (devZ c) p) (gV m c) = k0_pay14 (YB m (devZ c) p) (gV m c)) {off : Fin 2 → ℕ} (ho : off = ![512 * p.val, 0])
    {off' : Fin 1 → ℕ} (ho' : off' = ![0]) {inb inb'} {hl hl' hl'' hx hm}
    {α : Type} {Q : α → sProp 𝕄} {k : PUnit → Prog (TpuEff nD τ sig (Elt F) Λ₀ .tc) α} :
    oP m c (rb p) ⊢ iprop(gP m c -∗ (oN m c (rb p) -∗ gP m c -∗ WP c (k ⟨⟩) Q)
      -∗ WP c (.op (.load oM (Rect.unit (s := S2048x2048) off S512x2048.size inb).toLoadRect hl) fun v =>
          .op (.load gM (Rect.unit (s := S2048) off' S2048.size inb').toLoadRect hl') fun g =>
          .op (.load oM (Rect.unit (s := S2048x2048) off S512x2048.size inb).toLoadRect hl'') fun _ =>
          .op (.store oM (Rect.unit (s := S2048x2048) off S512x2048.size inb) (pay v g) Finset.univ hx hm) k) Q) := by
  iintro HO HG Hk
  iapply (load_rows m c p ho) $$ HO
  iintro HO
  iapply (load_g m c ho') $$ HG
  iintro HG
  iapply (load_rows m c p ho) $$ HO
  iintro HO
  iapply (store_rows m c p ho hpay) $$ HO
  iintro HO
  iapply Hk $$ HO HG

/-! ## Pieces of the output -/

/-- Band `b` in one column block, and in a pair of x neighbours' column blocks. -/
def P1 (b : Fin 5) (q : Fin 4) : Finset (Fin 5 × Fin 4) := {b} ×ˢ {q}
def P2 (b : Fin 5) (q : Fin 4) : Finset (Fin 5 × Fin 4) := {b} ×ˢ {q, qx q}

theorem P2_split : ∀ b q, Disjoint (P1 b q) (P1 b (qx q)) ∧ P2 b q = P1 b q ∪ P1 b (qx q) := by decide
theorem rb_split : ∀ (p : Fin 3) q, Disjoint (P2 p.castSucc.castSucc q) (P2 p.castSucc.castSucc (qy q)) ∧ rb p.castSucc = P2 p.castSucc.castSucc q ∪ P2 p.castSucc.castSucc (qy q) := by decide
theorem rb3_split : ∀ q, Disjoint (P2 3 q ∪ P2 3 (qy q)) (P2 4 q ∪ P2 4 (qy q)) ∧ rb 3 = (P2 3 q ∪ P2 3 (qy q)) ∪ (P2 4 q ∪ P2 4 (qy q)) := by decide
theorem dis_P2 : ∀ b q, Disjoint (P2 b q) (P2 b (qy q)) := by decide
theorem blk_lt : ∀ (p : Fin 3) (q : Fin 4), pb p.castSucc ×ˢ {q} = P1 p.castSucc.castSucc q := by decide
theorem blk_last : ∀ q : Fin 4, Disjoint (P1 3 q) (P1 4 q) ∧ pb 3 ×ˢ {q} = P1 3 q ∪ P1 4 q := by decide

theorem devQ_xp : ∀ c, devQ (xp c) = qx (devQ c) := by decide
theorem devQ_yp : ∀ c, devQ (yp c) = qy (devQ c) := by decide
theorem qy_qx : ∀ q, qy (qx q) = qx (qy q) := by decide

end Cert.RingProof

end
-- ==== Proof.Enter.lean ====
/-
# The start of the body

A device tells its four neighbours that its buffers are ready, handing each the landing places of that neighbour's
transfers, and waits for the four neighbours' word in turn.
-/
module

public import proofs.«01_k».proof.Proof.Kit

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-- What a device owes at the start: every arrival, and a word to each of its four neighbours. -/
def owe₃ (c : Dev nD) : CellTallies nD τ sig Unit := owe 0 c + tallyAt (cell (yp c) .bar) () 1
def owe₂ (c : Dev nD) : CellTallies nD τ sig Unit := owe₃ c + tallyAt (cell (xp c) .bar) () 1
def owe₁ (c : Dev nD) : CellTallies nD τ sig Unit := owe₂ c + tallyAt (cell (rgt c) .bar) () 1
def owe₀ (c : Dev nD) : CellTallies nD τ sig Unit := owe₁ c + tallyAt (cell (lft c) .bar) () 1

/-- A transfer before its landing place is known to be free. -/
def ready (c : Dev nD) (t : T) : sProp 𝕄 :=
  iprop(dutyTok ER (cell c (.s t)) 0 0 ∗ dutyTok ER (cell (dD t c) (.r t)) 0 0 ∗ atPos ER (cell c (.s t)) 0 ∅ 0 ∗ srcHeld m t c)

/-- A device's part in the barrier: its tokens at its neighbours' cells, its position at and credit for its own. -/
def atBar (c : Dev nD) : sProp 𝕄 :=
  iprop(dutyTok ER (cell (lft c) .bar) 0 1 ∗ dutyTok ER (cell (rgt c) .bar) 0 0 ∗ dutyTok ER (cell (xp c) .bar) 0 2 ∗ dutyTok ER (cell (yp c) .bar) 0 3
    ∗ atPos ER (cell c .bar) 0 ∅ 0 ∗ cred (tallyAt (cell c .bar) () 4))

/-- The landing places in a device's own buffers, neighbour by neighbour. -/
def places (c : Dev nD) : sProp 𝕄 := iprop(barPay (F := F) 1 (lft c) ∗ barPay (F := F) 2 (xp c) ∗ barPay (F := F) 3 (yp c))

theorem barPay_none (c : Dev nD) : (barPay 0 c : sProp 𝕄) = iprop(emp) := by
  unfold barPay
  rw [show (Finset.univ.filter fun t => cl t = 0) = ∅ from by decide]
  rfl

/-- One word to a neighbour. -/
theorem tell (c n : Dev nD) (j : Fin 4) {O₀ : CellTallies nD τ sig Unit} (O : CellTallies nD τ sig Unit) (hO : O₀ = O + tallyAt (cell n .bar) () 1)
    (d : Dev nD) (hd : d = n) {W : Waits sig Unit} {α : Type} {Q : α → sProp 𝕄} {k : PUnit → Prog (TpuEff nD τ sig (Elt F) Λ₀ .tc) α} :
    Inv m K ⊢ iprop(owes (c : Thread nD τ) O₀ W -∗ dutyTok ER (cell n .bar) 0 j -∗ barPay (F := F) j n
      -∗ (owes (c : Thread nD τ) O W -∗ WP c (k ⟨⟩) Q)
      -∗ WP c (.op (.semSignal (d : Thread nD τ) barS 1) k) Q) := by
  subst hd
  iintro #HI HO Ht Hp Hk
  ihave Hc := (Inv_cell m K d .bar) $$ HI
  icases Hc with ⟨#HIb, #Hr⟩
  iapply (Rounds.wp_signal 𝒱₀ ER (rd m) (c : Thread nD τ) none (dst := (d : Thread nD τ)) (κ := K (d, .bar)) (d := j)
      (show j ∈ (rd m).duties (cell d .bar) 0 by rw [rd_duties]; exact Finset.mem_univ _) (rd_amount m d .bar j) () O hO) $$ [HO Ht Hp]
  · isplitr; · iexact HIb
    isplitl [HO]; · iexact HO
    isplitl [Ht]; · iexact Ht
    isplitl [Hp]; · iapply (Entails.of_eq (show barPay j d = (rd m).payload ((d : Thread nD τ), .reg barS) 0 j from (rd_payload m d .bar j).symm)); iexact Hp
    iexact Hr
  iexact Hk

theorem ready_unsent (c : Dev nD) (t : T) :
    iprop(dstAny (F := F) t c ∗ ready m c t ∗ expected c t) ⊢ iprop(unsent m c t ∗ expected c t) := by
  unfold unsent ready
  iintro ⟨H, ⟨H1, H2, H3, H4⟩, He⟩
  isplitr [He]
  · isplitl [H1]; · iexact H1
    isplitl [H2]; · iexact H2
    isplitl [H3]; · iexact H3
    isplitl [H]; · iexact H
    iexact H4
  iexact He

theorem all_unsent (c : Dev nD) : iprop(bigSep Finset.univ (fun t => dstAny (F := F) t c) ∗ bigSep Finset.univ (fun t => iprop(ready m c t ∗ expected c t)))
    ⊢ bigSep Finset.univ (fun t => iprop(unsent m c t ∗ expected c t)) :=
  (Entails.of_eq (bigSep_sep' _ _ _).symm).trans (bigSep_mono fun t _ => ready_unsent m c t)

theorem part1 (c : Dev nD) {Kt : _ → sProp 𝕄} :
    iprop(∀ v2, ∀ v5, ∀ v8, ∀ v19, ∀ v30, ∀ v32, ∀ v34, ∀ v35, Kt ⟨c, v2, v5, v8, v19, v30, v32, SemArray.scalar (sig.barrier 0 rfl), v34, v35⟩)
      ⊢ WP c (onBufs (k0_part1 (F := F))) Kt := by
  simp only [onBufs, k0_part1_eq_skeleton]
  unfold k0_part1_skel
  simp only [Prog.lift, Prog.bind_op, Prog.bind_ret, Prog.pure_eq_ret, wp_deviceId]
  iintro Hk
  iapply (ret_intro c)
  iapply Hk

theorem part2 (c : Dev nD) (v2 v5 v8 v19 v30 v34 v35 : BitVec 32) {Kt : _ → sProp 𝕄} :
    Inv m K ⊢ iprop((∃ W, owes (c : Thread nD τ) (owe₀ c) W) -∗ atBar c -∗ places (F := F) c -∗ bigSep Finset.univ (fun t => iprop(ready m c t ∗ expected c t))
      -∗ (∀ r, St m c 0 0 -∗ semVal (cell c .bar) 0 -∗ Kt r)
      -∗ WP c (onBufs (k0_part2 (F := F)) c v2 v5 v8 v19 v30 (SemArray.scalar (sig.barrier 0 rfl)) v34 v35) Kt) := by
  simp only [onBufs, k0_part2_eq_skeleton]
  unfold k0_part2_skel
  simp only [semSignalWord, semWaitWord, Prog.lift, Prog.bind_op, Prog.bind_ret, Prog.pure_eq_ret]
  unfold atBar places
  iintro #HI ⟨%W, HO⟩ ⟨Hl, Hr, Hx, Hy, Hat, Hcr⟩ ⟨Pl, Px, Py⟩ HB Hk
  iapply (tell m K c (lft c) 1 (O₀ := owe₀ c) (owe₁ c) rfl _ (dev_lft c)) $$ HI HO Hl Pl
  iintro HO
  iapply (tell m K c (rgt c) 0 (O₀ := owe₁ c) (owe₂ c) rfl _ (dev_rgt c)) $$ HI HO Hr []
  · rw [barPay_none]; iempintro
  iintro HO
  iapply (tell m K c (xp c) 2 (O₀ := owe₂ c) (owe₃ c) rfl _ (dev_xp c)) $$ HI HO Hx Px
  iintro HO
  iapply (tell m K c (yp c) 3 (O₀ := owe₃ c) (owe 0 c) rfl _ (dev_yp c)) $$ HI HO Hy Py
  iintro HO
  ihave Hc := (Inv_cell m K c .bar) $$ HI
  icases Hc with ⟨#HIb, #Hrb⟩
  iapply (Rounds.wp_wait_rest_token 𝒱₀ ER (rd m) (c : Thread nD τ) none (κ := K (c, .bar))
      (wpE_semWait_eq 𝒱₀ (c : Thread nD τ) none Set.univ) (Set.mem_univ _) () (O := owe 0 c) (W := W) (R := 0) (m := 0) (T := ∅)
      ((Nat.zero_add 4).trans (rd_expect_bar m c).symm)) $$ [Hcr HO Hat]
  · isplitr; · iexact HIb
    isplitl [Hcr]; · iexact Hcr
    isplitl [HO]; · iexact HO
    isplitr
    · iapply (mayWait c (.reg barS) 0 (fun t _ => by rw [show cls (.reg barS) = some CK.bar from cls_csem .bar]; show 1 < _; omega))
      iapply (Inv_lev m K); iexact HI
    iexact Hat
  iintro ⟨HO, Hat, -, Hpay⟩
  ihave Hp := (show bigSep ((rd m).duties ((c : Thread nD τ), .reg barS) 0 \ ∅) (fun d => (rd m).payload ((c : Thread nD τ), .reg barS) 0 d)
    ⊢ bigSep Finset.univ fun t => dstAny (F := F) t c from rest_bar m c) $$ Hpay
  imod (Rounds.cell_close ER (rd m) (Set.mem_univ (K (c, .bar))) (fun h => h) (R := 0 + 1) (rd_later m (cell c .bar))) $$ [Hat] with Hz
  · isplitr; · iexact HIb
    iexact Hat
  iapply (ret_intro c)
  iapply Hk $$ [HO Hp HB] Hz
  iapply (St_intro m c)
  isplitl [HO]; · iexists _; iexact HO
  iapply (all_unsent m c)
  isplitl [Hp]; · iexact Hp
  iexact HB

end Cert.RingProof

end
-- ==== Proof.PartsA.lean ====
/-
# The body, parts 3 to 15

Each lemma takes a printed part of the body from what the device holds before it to what it holds after it, for any
values of the words the part computes.
-/
module

public import proofs.«01_k».proof.Proof.Kit

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

theorem part3 (c : Dev nD) (v2 v5 v8 v30 v32 v62 v63 v64 : BitVec 32) {Kt : _ → sProp 𝕄} :
    Inv m K ⊢ iprop(St m c 0 0 -∗ (∀ r, St m c 1 0 -∗ Kt r) -∗ WP c (onBufs (k0_part3 (F := F)) c v2 v5 v8 v30 v32 v62 v63 v64) Kt) := by
  simp only [onBufs, k0_part3_eq_skeleton]
  unfold k0_part3_skel
  simp only [Prog.lift, Prog.bind_op, Prog.bind_ret, Prog.pure_eq_ret]
  iintro #HI HSt Hk
  iapply (send_z0 m K c 0 (by decide) (by decide) _ (toR_dev 0 c) (off_src c 0) rfl rfl rfl) $$ HI HSt
  iintro HSt
  iapply (ret_intro c)
  iapply Hk $$ HSt

theorem part4 (c : Dev nD) (v2 v5 v8 v30 v32 v91 v92 : BitVec 32) (v93 v96 : BitVec 1) {Kt : _ → sProp 𝕄} :
    Inv m K ⊢ iprop(Lc m c -∗ (∀ r, Lf m c 0 0 -∗ Kt r) -∗ WP c (onBufs (k0_part4 (F := F)) c v2 v5 v8 v30 v32 v91 v92 v93 v96) Kt) := by
  simp only [onBufs, k0_part4_eq_skeleton]
  unfold k0_part4_skel
  simp only [Prog.lift, Prog.bind_op, Prog.bind_ret, Prog.pure_eq_ret]
  iintro #HI HL Hk
  iapply (copy_start m c 0 0 (off_loc c 0 0) rfl rfl) $$ HL
  iintro HL
  iapply (ret_intro c)
  iapply Hk $$ HL

theorem part5 (c : Dev nD) (v2 v5 v30 : BitVec 32) {Kt : _ → sProp 𝕄} :
    Inv m K ⊢ iprop(St m c 1 0 -∗ Lf m c 0 0 -∗ (∀ r, St m c 2 2 -∗ Lv m c 0 0 -∗ cP c 0 0 (CR m c) -∗ Kt r)
      -∗ WP c (onBufs (k0_part5 (F := F)) c v2 v5 v30) Kt) := by
  simp only [onBufs, k0_part5_eq_skeleton]
  unfold k0_part5_skel
  simp only [Prog.lift, Prog.bind_op, Prog.bind_ret, Prog.pure_eq_ret]
  iintro #HI HSt HL Hk
  iapply (send_z0 m K c 1 (by decide) (by decide) _ (toR_dev 1 c) (off_src c 1) rfl rfl rfl) $$ HI HSt
  iintro HSt
  iapply (wait_z m K c 0 0 (by decide) (by decide) rfl rfl rfl rfl) $$ HI HSt
  iintro HSt HC
  iapply (copy_wait m K c 0 0 rfl rfl) $$ HI HSt HL
  iintro HSt HL
  iapply (ret_intro c)
  iapply Hk $$ HSt HL HC

theorem part6 (c : Dev nD) (v2 v5 v8 v30 : BitVec 32) {Kt : _ → sProp 𝕄} :
    Inv m K ⊢ iprop(St m c 2 2 -∗ Lv m c 0 0 -∗ cP c 0 0 (CR m c) -∗ (∀ r, St m c 3 2 -∗ Lc m c -∗ Kt r)
      -∗ WP c (onBufs (k0_part6 (F := F)) c v2 v5 v8 v30) Kt) := by
  simp only [onBufs, k0_part6_eq_skeleton]
  unfold k0_part6_skel
  simp only [Prog.lift, Prog.bind_op, Prog.bind_ret, Prog.pure_eq_ret]
  iintro #HI HSt HL HC Hk
  iapply (add_c m c 0 0 (add_slot m c 0 0) rfl rfl) $$ HL HC
  iintro HL HC
  iapply (send_z m K c 0 0 1 (by decide) (by decide) (by decide) _ (toR_dev 2 c) rfl rfl rfl rfl) $$ HI HSt HC
  iintro HSt
  iapply (ret_intro c)
  iapply Hk $$ HSt HL

theorem part7 (c : Dev nD) (v2 v5 v30 v32 v179 v180 : BitVec 32) (v181 : BitVec 1) (v182 : BitVec 32) {Kt : _ → sProp 𝕄} :
    Inv m K ⊢ iprop(St m c 3 2 -∗ Lc m c -∗ (∀ r, St m c 3 3 -∗ Lf m c 1 0 -∗ Kt r)
      -∗ WP c (onBufs (k0_part7 (F := F)) c v2 v5 v30 v32 v179 v180 v181 v182) Kt) := by
  simp only [onBufs, k0_part7_eq_skeleton]
  unfold k0_part7_skel
  simp only [Prog.lift, Prog.bind_op, Prog.bind_ret, Prog.pure_eq_ret]
  iintro #HI HSt HL Hk
  iapply (copy_start m c 1 0 (off_loc c 1 0) rfl rfl) $$ HL
  iintro HL
  iapply (wait_sz m K c 1 0 (by decide) (by decide) rfl rfl) $$ HI HSt
  iintro HSt
  iapply (ret_intro c)
  iapply Hk $$ HSt HL

theorem part8 (c : Dev nD) (v2 v5 v30 : BitVec 32) {Kt : _ → sProp 𝕄} :
    Inv m K ⊢ iprop(St m c 3 3 -∗ Lf m c 1 0 -∗ (∀ r, St m c 4 4 -∗ Lc m c -∗ Kt r) -∗ WP c (onBufs (k0_part8 (F := F)) c v2 v5 v30) Kt) := by
  simp only [onBufs, k0_part8_eq_skeleton]
  unfold k0_part8_skel
  simp only [Prog.lift, Prog.bind_op, Prog.bind_ret, Prog.pure_eq_ret]
  iintro #HI HSt HL Hk
  iapply (wait_rz m K c 1 0 (by decide) (by decide) rfl rfl) $$ HI HSt
  iintro HSt HC
  iapply (copy_wait m K c 1 0 rfl rfl) $$ HI HSt HL
  iintro HSt HL
  iapply (add_c m c 1 0 (add_slot m c 1 0) rfl rfl) $$ HL HC
  iintro HL HC
  iapply (send_z m K c 1 0 1 (by decide) (by decide) (by decide) _ (toR_dev 3 c) rfl rfl rfl rfl) $$ HI HSt HC
  iintro HSt
  iapply (ret_intro c)
  iapply Hk $$ HSt HL

theorem part9 (c : Dev nD) (v8 v32 v213 : BitVec 32) {Kt : _ → sProp 𝕄} :
    Inv m K ⊢ iprop(St m c 4 4 -∗ Lc m c -∗ (∀ r, St m c 4 5 -∗ Lf m c 0 1 -∗ Kt r) -∗ WP c (onBufs (k0_part9 (F := F)) c v8 v32 v213) Kt) := by
  simp only [onBufs, k0_part9_eq_skeleton]
  unfold k0_part9_skel
  simp only [Prog.lift, Prog.bind_op, Prog.bind_ret, Prog.pure_eq_ret]
  iintro #HI HSt HL Hk
  iapply (copy_start m c 0 1 (off_loc c 0 1) rfl rfl) $$ HL
  iintro HL
  iapply (wait_sz m K c 0 1 (by decide) (by decide) rfl rfl) $$ HI HSt
  iintro HSt
  iapply (ret_intro c)
  iapply Hk $$ HSt HL

theorem part10 (c : Dev nD) (v2 v5 v30 : BitVec 32) {Kt : _ → sProp 𝕄} :
    Inv m K ⊢ iprop(St m c 4 5 -∗ Lf m c 0 1 -∗ (∀ r, St m c 4 6 -∗ Lc m c -∗ cP c 0 1 (CA m c) -∗ Kt r)
      -∗ WP c (onBufs (k0_part10 (F := F)) c v2 v5 v30) Kt) := by
  simp only [onBufs, k0_part10_eq_skeleton]
  unfold k0_part10_skel
  simp only [Prog.lift, Prog.bind_op, Prog.bind_ret, Prog.pure_eq_ret]
  iintro #HI HSt HL Hk
  iapply (wait_rz m K c 0 1 (by decide) (by decide) rfl rfl) $$ HI HSt
  iintro HSt HC
  iapply (copy_wait m K c 0 1 rfl rfl) $$ HI HSt HL
  iintro HSt HL
  iapply (add_c m c 0 1 (add_slot m c 0 1) rfl rfl) $$ HL HC
  iintro HL HC
  iapply (ret_intro c)
  iapply Hk $$ HSt HL HC

theorem part11 (c : Dev nD) (v2 v5 v8 v30 v32 v283 v284 : BitVec 32) {Kt : _ → sProp 𝕄} :
    Inv m K ⊢ iprop(St m c 4 6 -∗ cP c 0 1 (CA m c) -∗ (∀ r, St m c 5 6 -∗ Kt r)
      -∗ WP c (onBufs (k0_part11 (F := F)) c v2 v5 v8 v30 v32 v283 v284) Kt) := by
  simp only [onBufs, k0_part11_eq_skeleton]
  unfold k0_part11_skel
  simp only [Prog.lift, Prog.bind_op, Prog.bind_ret, Prog.pure_eq_ret]
  iintro #HI HSt HC Hk
  iapply (send_z m K c 0 1 2 (by decide) (by decide) (by decide) _ (toR_dev 4 c) rfl rfl rfl rfl) $$ HI HSt HC
  iintro HSt
  iapply (ret_intro c)
  iapply Hk $$ HSt

theorem part12 (c : Dev nD) (v8 v32 : BitVec 32) {Kt : _ → sProp 𝕄} :
    Inv m K ⊢ iprop(St m c 5 6 -∗ Lc m c -∗ (∀ r, St m c 6 6 -∗ Lf m c 1 1 -∗ Kt r) -∗ WP c (onBufs (k0_part12 (F := F)) c v8 v32) Kt) := by
  simp only [onBufs, k0_part12_eq_skeleton]
  unfold k0_part12_skel
  simp only [Prog.lift, Prog.bind_op, Prog.bind_ret, Prog.pure_eq_ret]
  iintro #HI HSt HL Hk
  iapply (send_z0 m K c 2 (by decide) (by decide) _ (toR_dev 5 c) (off_src c 2) rfl rfl rfl) $$ HI HSt
  iintro HSt
  iapply (copy_start m c 1 1 (off_loc c 1 1) rfl rfl) $$ HL
  iintro HL
  iapply (ret_intro c)
  iapply Hk $$ HSt HL

theorem part13 (c : Dev nD) (v2 v5 v30 : BitVec 32) {Kt : _ → sProp 𝕄} :
    Inv m K ⊢ iprop(St m c 6 6 -∗ Lf m c 1 1 -∗ (∀ r, St m c 6 8 -∗ Lc m c -∗ cP c 1 1 (CA m c) -∗ Kt r)
      -∗ WP c (onBufs (k0_part13 (F := F)) c v2 v5 v30) Kt) := by
  simp only [onBufs, k0_part13_eq_skeleton]
  unfold k0_part13_skel
  simp only [Prog.lift, Prog.bind_op, Prog.bind_ret, Prog.pure_eq_ret]
  iintro #HI HSt HL Hk
  iapply (wait_z m K c 1 1 (by decide) (by decide) rfl rfl rfl rfl) $$ HI HSt
  iintro HSt HC
  iapply (copy_wait m K c 1 1 rfl rfl) $$ HI HSt HL
  iintro HSt HL
  iapply (add_c m c 1 1 (add_slot m c 1 1) rfl rfl) $$ HL HC
  iintro HL HC
  iapply (ret_intro c)
  iapply Hk $$ HSt HL HC

theorem part14 (c : Dev nD) (v2 v5 v8 v30 v32 : BitVec 32) {Kt : _ → sProp 𝕄} :
    Inv m K ⊢ iprop(St m c 6 8 -∗ cP c 1 1 (CA m c) -∗ (∀ r, St m c 7 8 -∗ Kt r) -∗ WP c (onBufs (k0_part14 (F := F)) c v2 v5 v8 v30 v32) Kt) := by
  simp only [onBufs, k0_part14_eq_skeleton]
  unfold k0_part14_skel
  simp only [Prog.lift, Prog.bind_op, Prog.bind_ret, Prog.pure_eq_ret]
  iintro #HI HSt HC Hk
  iapply (send_z m K c 1 1 2 (by decide) (by decide) (by decide) _ (toR_dev 6 c) rfl rfl rfl rfl) $$ HI HSt HC
  iintro HSt
  iapply (ret_intro c)
  iapply Hk $$ HSt

theorem part15 (c : Dev nD) (v5 v8 v30 v32 v398 : BitVec 32) {Kt : _ → sProp 𝕄} :
    Inv m K ⊢ iprop(St m c 7 8 -∗ Lc m c -∗ (∀ r, St m c 8 8 -∗ Lf m c 0 2 -∗ Kt r) -∗ WP c (onBufs (k0_part15 (F := F)) c v5 v8 v30 v32 v398) Kt) := by
  simp only [onBufs, k0_part15_eq_skeleton]
  unfold k0_part15_skel
  simp only [Prog.lift, Prog.bind_op, Prog.bind_ret, Prog.pure_eq_ret]
  iintro #HI HSt HL Hk
  iapply (send_z0 m K c 3 (by decide) (by decide) _ (toR_dev 7 c) (off_src c 3) rfl rfl rfl) $$ HI HSt
  iintro HSt
  iapply (copy_start m c 0 2 (off_loc c 0 2) rfl rfl) $$ HL
  iintro HL
  iapply (ret_intro c)
  iapply Hk $$ HSt HL

end Cert.RingProof

end
-- ==== Proof.PartsB.lean ====
/-
# The body, parts 16 to 28

Each lemma takes a printed part of the body from what the device holds before it to what it holds after it, for any
values of the words the part computes.
-/
module

public import proofs.«01_k».proof.Proof.Kit

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

theorem part16 (c : Dev nD) (v2 v5 v30 v32 : BitVec 32) {Kt : _ → sProp 𝕄} :
    Inv m K ⊢ iprop(St m c 8 8 -∗ Lf m c 0 2
      -∗ (∀ r, St m c 8 10 -∗ Lc m c -∗ cP c 0 2 (CR m c) -∗ Kt ⟨k0_pay5 (slotV 0 2 (CR m c)) (LV m c 0 2), r⟩)
      -∗ WP c (onBufs (k0_part16 (F := F)) c v2 v5 v30 v32) Kt) := by
  simp only [onBufs, k0_part16_eq_skeleton]
  unfold k0_part16_skel
  simp only [Prog.lift, Prog.bind_op, Prog.bind_ret, Prog.pure_eq_ret]
  iintro #HI HSt HL Hk
  iapply (wait_z m K c 0 2 (by decide) (by decide) rfl rfl rfl rfl) $$ HI HSt
  iintro HSt HC
  iapply (copy_wait m K c 0 2 rfl rfl) $$ HI HSt HL
  iintro HSt HL
  iapply (load_cl m c 0 2 rfl rfl) $$ HL HC
  iintro HL HC
  iapply (ret_intro c)
  iapply Hk $$ HSt HL HC

theorem part17 (c : Dev nD) (v2 v5 v8 v32 v455 : BitVec 32) {Kt : _ → sProp 𝕄} :
    Inv m K ⊢ iprop(St m c 8 10 -∗ oA (F := F) c (P1 0 (devQ c)) -∗ (∀ r, St m c 9 10 -∗ Kt r)
      -∗ WP c (onBufs (k0_part17 (F := F)) c v2 v5 v8 v32 (k0_pay5 (slotV 0 2 (CR m c)) (LV m c 0 2)) v455) Kt) := by
  simp only [onBufs, k0_part17_eq_skeleton]
  unfold k0_part17_skel
  simp only [Prog.lift, Prog.bind_op, Prog.bind_ret, Prog.pure_eq_ret]
  iintro #HI HSt HO Hk
  iapply (load_blk c 0 (S := P1 0 (devQ c)) rfl (st_off 0 c)) $$ HO
  iintro %v HO
  iapply (store_blk m c 0 (S := P1 0 (devQ c)) rfl (st_off 0 c) rfl) $$ HO
  iintro HO
  iapply (send_o m K c (.x 0) trivial (by decide) (by decide) _ (toX_dev 0 c) (S := P1 0 (devQ c)) rfl (rect_col (rows_band 0) (col_off 0 c)) rfl rfl rfl) $$ HI HSt HO
  iintro HSt
  iapply (ret_intro c)
  iapply Hk $$ HSt

theorem part18 (c : Dev nD) (v2 v5 v30 : BitVec 32) {Kt : _ → sProp 𝕄} :
    Inv m K ⊢ iprop(St m c 9 10 -∗ Lc m c -∗ (∀ r, St m c 9 12 -∗ Lv m c 1 2 -∗ cP c 1 2 (CR m c) -∗ Kt r)
      -∗ WP c (onBufs (k0_part18 (F := F)) c v2 v5 v30) Kt) := by
  simp only [onBufs, k0_part18_eq_skeleton]
  unfold k0_part18_skel
  simp only [Prog.lift, Prog.bind_op, Prog.bind_ret, Prog.pure_eq_ret]
  iintro #HI HSt HL Hk
  iapply (copy_start m c 1 2 (off_loc c 1 2) rfl rfl) $$ HL
  iintro HL
  iapply (wait_z m K c 1 2 (by decide) (by decide) rfl rfl rfl rfl) $$ HI HSt
  iintro HSt HC
  iapply (copy_wait m K c 1 2 rfl rfl) $$ HI HSt HL
  iintro HSt HL
  iapply (ret_intro c)
  iapply Hk $$ HSt HL HC

theorem part19 (c : Dev nD) (v2 v5 v8 v32 : BitVec 32) {Kt : _ → sProp 𝕄} :
    Inv m K ⊢ iprop(St m c 9 12 -∗ Lv m c 1 2 -∗ cP c 1 2 (CR m c) -∗ oA (F := F) c (P1 1 (devQ c))
      -∗ (∀ r, St m c 10 12 -∗ Lc m c -∗ cP c 1 2 (CR m c) -∗ Kt r)
      -∗ WP c (onBufs (k0_part19 (F := F)) c v2 v5 v8 v32) Kt) := by
  simp only [onBufs, k0_part19_eq_skeleton]
  unfold k0_part19_skel
  simp only [Prog.lift, Prog.bind_op, Prog.bind_ret, Prog.pure_eq_ret]
  iintro #HI HSt HL HC HO Hk
  iapply (load_cl m c 1 2 rfl rfl) $$ HL HC
  iintro HL HC
  iapply (load_blk c 1 (S := P1 1 (devQ c)) rfl (st_off 1 c)) $$ HO
  iintro %v HO
  iapply (store_blk m c 1 (S := P1 1 (devQ c)) rfl (st_off 1 c) rfl) $$ HO
  iintro HO
  iapply (send_o m K c (.x 1) trivial (by decide) (by decide) _ (toX_dev 1 c) (S := P1 1 (devQ c)) rfl (rect_col (rows_band 1) (col_off 1 c)) rfl rfl rfl) $$ HI HSt HO
  iintro HSt
  iapply (ret_intro c)
  iapply Hk $$ HSt HL HC

theorem part20 (c : Dev nD) (v2 v5 v30 v32 v543 v544 : BitVec 32) {Kt : _ → sProp 𝕄} :
    Inv m K ⊢ iprop(St m c 10 12 -∗ Lc m c -∗ (∀ r, St m c 10 14 -∗ Lf m c 2 0 -∗ cP c 2 0 (CR m c) -∗ Kt r)
      -∗ WP c (onBufs (k0_part20 (F := F)) c v2 v5 v30 v32 v543 v544) Kt) := by
  simp only [onBufs, k0_part20_eq_skeleton]
  unfold k0_part20_skel
  simp only [Prog.lift, Prog.bind_op, Prog.bind_ret, Prog.pure_eq_ret]
  iintro #HI HSt HL Hk
  iapply (copy_start m c 2 0 (off_loc c 2 0) rfl rfl) $$ HL
  iintro HL
  iapply (wait_z m K c 2 0 (by decide) (by decide) rfl rfl rfl rfl) $$ HI HSt
  iintro HSt HC
  iapply (ret_intro c)
  iapply Hk $$ HSt HL HC

theorem part21 (c : Dev nD) (v2 v5 v8 v30 : BitVec 32) {Kt : _ → sProp 𝕄} :
    Inv m K ⊢ iprop(St m c 10 14 -∗ Lf m c 2 0 -∗ cP c 2 0 (CR m c) -∗ (∀ r, St m c 11 14 -∗ Lc m c -∗ Kt r)
      -∗ WP c (onBufs (k0_part21 (F := F)) c v2 v5 v8 v30) Kt) := by
  simp only [onBufs, k0_part21_eq_skeleton]
  unfold k0_part21_skel
  simp only [Prog.lift, Prog.bind_op, Prog.bind_ret, Prog.pure_eq_ret]
  iintro #HI HSt HL HC Hk
  iapply (copy_wait m K c 2 0 rfl rfl) $$ HI HSt HL
  iintro HSt HL
  iapply (add_c m c 2 0 (add_slot m c 2 0) rfl rfl) $$ HL HC
  iintro HL HC
  iapply (send_z m K c 2 0 1 (by decide) (by decide) (by decide) _ (toR_dev 8 c) rfl rfl rfl rfl) $$ HI HSt HC
  iintro HSt
  iapply (ret_intro c)
  iapply Hk $$ HSt HL

theorem part22 (c : Dev nD) (v5 v8 v32 v459 v593 v595 : BitVec 32) {Kt : _ → sProp 𝕄} :
    Inv m K ⊢ iprop(St m c 11 14 -∗ Lc m c -∗ (∀ r, St m c 11 16 -∗ Lf m c 3 0 -∗ oP m c (P2 0 (devQ c)) -∗ Kt r)
      -∗ WP c (onBufs (k0_part22 (F := F)) c v5 v8 v32 v459 v593 v595) Kt) := by
  simp only [onBufs, k0_part22_eq_skeleton]
  unfold k0_part22_skel
  simp only [Prog.lift, Prog.bind_op, Prog.bind_ret, Prog.pure_eq_ret]
  iintro #HI HSt HL Hk
  iapply (copy_start m c 3 0 (off_loc c 3 0) rfl rfl) $$ HL
  iintro HL
  iapply (wait_o m K c (.x 0) trivial (P1 0 (devQ c)) (P1 0 (qx (devQ c))) (P2 0 (devQ c)) rfl (congrArg (oR (.x 0)) (devQ_xp c)) (P2_split 0 (devQ c))
    (by decide) (by decide) rfl rfl rfl rfl) $$ HI HSt
  iintro HSt HO
  iapply (ret_intro c)
  iapply Hk $$ HSt HL HO

theorem part23 (c : Dev nD) (v2 v5 v8 v30 v625 v626 : BitVec 32) {Kt : _ → sProp 𝕄} :
    Inv m K ⊢ iprop(St m c 11 16 -∗ oP m c (P2 0 (devQ c)) -∗ (∀ r, St m c 12 17 -∗ Kt r)
      -∗ WP c (onBufs (k0_part23 (F := F)) c v2 v5 v8 v30 v625 v626) Kt) := by
  simp only [onBufs, k0_part23_eq_skeleton]
  unfold k0_part23_skel
  simp only [Prog.lift, Prog.bind_op, Prog.bind_ret, Prog.pure_eq_ret]
  iintro #HI HSt HO Hk
  iapply (send_o m K c (.y 0) trivial (by decide) (by decide) _ (toY_dev 0 c) (S := P2 0 (devQ c)) rfl (rect_pair (rows_band 0) (pair_off 0 c)) rfl rfl rfl) $$ HI HSt HO
  iintro HSt
  iapply (wait_sz m K c 3 0 (by decide) (by decide) rfl rfl) $$ HI HSt
  iintro HSt
  iapply (ret_intro c)
  iapply Hk $$ HSt

theorem part24 (c : Dev nD) (v2 v5 v8 v30 : BitVec 32) {Kt : _ → sProp 𝕄} :
    Inv m K ⊢ iprop(St m c 12 17 -∗ Lf m c 3 0 -∗ (∀ r, St m c 13 18 -∗ Lc m c -∗ Kt r) -∗ WP c (onBufs (k0_part24 (F := F)) c v2 v5 v8 v30) Kt) := by
  simp only [onBufs, k0_part24_eq_skeleton]
  unfold k0_part24_skel
  simp only [Prog.lift, Prog.bind_op, Prog.bind_ret, Prog.pure_eq_ret]
  iintro #HI HSt HL Hk
  iapply (wait_rz m K c 3 0 (by decide) (by decide) rfl rfl) $$ HI HSt
  iintro HSt HC
  iapply (copy_wait m K c 3 0 rfl rfl) $$ HI HSt HL
  iintro HSt HL
  iapply (add_c m c 3 0 (add_slot m c 3 0) rfl rfl) $$ HL HC
  iintro HL HC
  iapply (send_z m K c 3 0 1 (by decide) (by decide) (by decide) _ (toR_dev 9 c) rfl rfl rfl rfl) $$ HI HSt HC
  iintro HSt
  iapply (ret_intro c)
  iapply Hk $$ HSt HL

theorem part25 (c : Dev nD) (v5 v8 v32 v519 v680 v681 : BitVec 32) {Kt : _ → sProp 𝕄} :
    Inv m K ⊢ iprop(St m c 13 18 -∗ Lc m c -∗ (∀ r, St m c 13 20 -∗ Lf m c 2 1 -∗ oP m c (P2 1 (devQ c)) -∗ Kt r)
      -∗ WP c (onBufs (k0_part25 (F := F)) c v5 v8 v32 v519 v680 v681) Kt) := by
  simp only [onBufs, k0_part25_eq_skeleton]
  unfold k0_part25_skel
  simp only [Prog.lift, Prog.bind_op, Prog.bind_ret, Prog.pure_eq_ret]
  iintro #HI HSt HL Hk
  iapply (copy_start m c 2 1 (off_loc c 2 1) rfl rfl) $$ HL
  iintro HL
  iapply (wait_o m K c (.x 1) trivial (P1 1 (devQ c)) (P1 1 (qx (devQ c))) (P2 1 (devQ c)) rfl (congrArg (oR (.x 1)) (devQ_xp c)) (P2_split 1 (devQ c))
    (by decide) (by decide) rfl rfl rfl rfl) $$ HI HSt
  iintro HSt HO
  iapply (ret_intro c)
  iapply Hk $$ HSt HL HO

theorem part26 (c : Dev nD) (v2 v5 v8 v707 : BitVec 32) {Kt : _ → sProp 𝕄} :
    Inv m K ⊢ iprop(St m c 13 20 -∗ oP m c (P2 1 (devQ c)) -∗ (∀ r, St m c 14 21 -∗ Kt r)
      -∗ WP c (onBufs (k0_part26 (F := F)) c v2 v5 v8 v707) Kt) := by
  simp only [onBufs, k0_part26_eq_skeleton]
  unfold k0_part26_skel
  simp only [Prog.lift, Prog.bind_op, Prog.bind_ret, Prog.pure_eq_ret]
  iintro #HI HSt HO Hk
  iapply (send_o m K c (.y 1) trivial (by decide) (by decide) _ (toY_dev 1 c) (S := P2 1 (devQ c)) rfl (rect_pair (rows_band 1) (pair_off 1 c)) rfl rfl rfl) $$ HI HSt HO
  iintro HSt
  iapply (wait_sz m K c 2 1 (by decide) (by decide) rfl rfl) $$ HI HSt
  iintro HSt
  iapply (ret_intro c)
  iapply Hk $$ HSt

theorem part27 (c : Dev nD) (v2 v5 v30 v735 v741 : BitVec 32) {Kt : _ → sProp 𝕄} :
    Inv m K ⊢ iprop(St m c 14 21 -∗ Lf m c 2 1 -∗ (∀ r, St m c 14 22 -∗ Lc m c -∗ cP c 2 1 (CA m c) -∗ Kt r)
      -∗ WP c (onBufs (k0_part27 (F := F)) c v2 v5 v30 v735 v741) Kt) := by
  simp only [onBufs, k0_part27_eq_skeleton]
  unfold k0_part27_skel
  simp only [Prog.lift, Prog.bind_op, Prog.bind_ret, Prog.pure_eq_ret]
  iintro #HI HSt HL Hk
  iapply (wait_rz m K c 2 1 (by decide) (by decide) rfl rfl) $$ HI HSt
  iintro HSt HC
  iapply (copy_wait m K c 2 1 rfl rfl) $$ HI HSt HL
  iintro HSt HL
  iapply (add_c m c 2 1 (add_slot m c 2 1) rfl rfl) $$ HL HC
  iintro HL HC
  iapply (ret_intro c)
  iapply Hk $$ HSt HL HC

theorem part28 (c : Dev nD) (v2 v8 v32 v625 : BitVec 32) {Kt : _ → sProp 𝕄} :
    Inv m K ⊢ iprop(St m c 14 22 -∗ Lc m c -∗ cP c 2 1 (CA m c) -∗ (∀ r, St m c 15 23 -∗ Lf m c 3 1 -∗ oP m c (P2 0 (devQ c)) -∗ Kt r)
      -∗ WP c (onBufs (k0_part28 (F := F)) c v2 v8 v32 v625) Kt) := by
  simp only [onBufs, k0_part28_eq_skeleton]
  unfold k0_part28_skel
  simp only [Prog.lift, Prog.bind_op, Prog.bind_ret, Prog.pure_eq_ret]
  iintro #HI HSt HL HC Hk
  iapply (send_z m K c 2 1 2 (by decide) (by decide) (by decide) _ (toR_dev 10 c) rfl rfl rfl rfl) $$ HI HSt HC
  iintro HSt
  iapply (copy_start m c 3 1 (off_loc c 3 1) rfl rfl) $$ HL
  iintro HL
  iapply (wait_so m K c (.y 0) trivial (P2 0 (devQ c)) rfl (by decide) (by decide) rfl rfl) $$ HI HSt
  iintro HSt HO
  iapply (ret_intro c)
  iapply Hk $$ HSt HL HO

end Cert.RingProof

end
-- ==== Proof.PartsC.lean ====
/-
# The body, parts 29 to 41

Each lemma takes a printed part of the body from what the device holds before it to what it holds after it, for any
values of the words the part computes.
-/
module

public import proofs.«01_k».proof.Proof.Kit

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

theorem part29 (c : Dev nD) (v2 v5 v8 v30 v791 v792 : BitVec 32) {Kt : _ → sProp 𝕄} :
    Inv m K ⊢ iprop(St m c 15 23 -∗ oP m c (P2 0 (devQ c)) -∗ (∀ r, St m c 15 26 -∗ oP m c (rb 0) -∗ cP c 3 1 (CR m c) -∗ Kt r)
      -∗ WP c (onBufs (k0_part29 (F := F)) c v2 v5 v8 v30 v791 v792) Kt) := by
  simp only [onBufs, k0_part29_eq_skeleton]
  unfold k0_part29_skel
  simp only [Prog.lift, Prog.bind_op, Prog.bind_ret, Prog.pure_eq_ret]
  iintro #HI HSt HO Hk
  iapply (wait_ro m K c (.y 0) trivial (P2 0 (qy (devQ c))) (congrArg (oR (.y 0)) (devQ_yp c)) (by decide) (by decide) rfl rfl) $$ HI HSt
  iintro HSt HO'
  ihave HO := ((oP_join m (S'' := rb 0) (rb_split 0 (devQ c))).2) $$ [HO HO']
  · isplitl [HO]; · iexact HO
    iexact HO'
  iapply (wait_z m K c 3 1 (by decide) (by decide) rfl rfl rfl rfl) $$ HI HSt
  iintro HSt HC
  iapply (ret_intro c)
  iapply Hk $$ HSt HO HC

theorem part30 (c : Dev nD) (v2 v5 v8 v30 : BitVec 32) {Kt : _ → sProp 𝕄} :
    Inv m K ⊢ iprop(St m c 15 26 -∗ Lf m c 3 1 -∗ cP c 3 1 (CR m c) -∗ (∀ r, St m c 16 26 -∗ Lc m c -∗ Kt r)
      -∗ WP c (onBufs (k0_part30 (F := F)) c v2 v5 v8 v30) Kt) := by
  simp only [onBufs, k0_part30_eq_skeleton]
  unfold k0_part30_skel
  simp only [Prog.lift, Prog.bind_op, Prog.bind_ret, Prog.pure_eq_ret]
  iintro #HI HSt HL HC Hk
  iapply (copy_wait m K c 3 1 rfl rfl) $$ HI HSt HL
  iintro HSt HL
  iapply (add_c m c 3 1 (add_slot m c 3 1) rfl rfl) $$ HL HC
  iintro HL HC
  iapply (send_z m K c 3 1 2 (by decide) (by decide) (by decide) _ (toR_dev 11 c) rfl rfl rfl rfl) $$ HI HSt HC
  iintro HSt
  iapply (ret_intro c)
  iapply Hk $$ HSt HL

theorem part31 (c : Dev nD) (v2 v8 v32 v713 v843 : BitVec 32) {Kt : _ → sProp 𝕄} :
    Inv m K ⊢ iprop(St m c 16 26 -∗ Lc m c -∗ (∀ r, St m c 16 28 -∗ Lf m c 2 2 -∗ oP m c (rb 1) -∗ Kt r)
      -∗ WP c (onBufs (k0_part31 (F := F)) c v2 v8 v32 v713 v843) Kt) := by
  simp only [onBufs, k0_part31_eq_skeleton]
  unfold k0_part31_skel
  simp only [Prog.lift, Prog.bind_op, Prog.bind_ret, Prog.pure_eq_ret]
  iintro #HI HSt HL Hk
  iapply (copy_start m c 2 2 (off_loc c 2 2) rfl rfl) $$ HL
  iintro HL
  iapply (wait_o m K c (.y 1) trivial (P2 1 (devQ c)) (P2 1 (qy (devQ c))) (rb 1) rfl (congrArg (oR (.y 1)) (devQ_yp c)) (rb_split 1 (devQ c))
    (by decide) (by decide) rfl rfl rfl rfl) $$ HI HSt
  iintro HSt HO
  iapply (ret_intro c)
  iapply Hk $$ HSt HL HO

theorem part32 (c : Dev nD) (v2 v5 v30 : BitVec 32) {Kt : _ → sProp 𝕄} :
    Inv m K ⊢ iprop(St m c 16 28 -∗ Lf m c 2 2
      -∗ (St m c 16 30 -∗ Lv m c 2 2 -∗ cP c 2 2 (CR m c) -∗ Kt (k0_pay11 (slotV 2 2 (CR m c))))
      -∗ WP c (onBufs (k0_part32 (F := F)) c v2 v5 v30) Kt) := by
  simp only [onBufs, k0_part32_eq_skeleton]
  unfold k0_part32_skel
  simp only [Prog.lift, Prog.bind_op, Prog.bind_ret, Prog.pure_eq_ret]
  iintro #HI HSt HL Hk
  iapply (wait_z m K c 2 2 (by decide) (by decide) rfl rfl rfl rfl) $$ HI HSt
  iintro HSt HC
  iapply (copy_wait m K c 2 2 rfl rfl) $$ HI HSt HL
  iintro HSt HL
  iapply (load_c c 2 2 (CR m c) rfl) $$ HC
  iintro HC
  iapply (ret_intro c)
  iapply Hk $$ HSt HL HC

theorem part33 (c : Dev nD) (v2 v5 v8 v32 : BitVec 32) {Kt : _ → sProp 𝕄} :
    Inv m K ⊢ iprop(St m c 16 30 -∗ Lv m c 2 2 -∗ oA (F := F) c (P1 2 (devQ c)) -∗ (∀ r, St m c 17 30 -∗ Lc m c -∗ Kt r)
      -∗ WP c (onBufs (k0_part33 (F := F)) c v2 v5 v8 v32 (k0_pay11 (slotV 2 2 (CR m c)))) Kt) := by
  simp only [onBufs, k0_part33_eq_skeleton]
  unfold k0_part33_skel
  simp only [Prog.lift, Prog.bind_op, Prog.bind_ret, Prog.pure_eq_ret]
  iintro #HI HSt HL HO Hk
  iapply (load_l m c 2 2 rfl) $$ HL
  iintro HL
  iapply (load_blk c 2 (S := P1 2 (devQ c)) rfl (st_off 2 c)) $$ HO
  iintro %v HO
  iapply (store_blk m c 2 (S := P1 2 (devQ c)) rfl (st_off 2 c) rfl) $$ HO
  iintro HO
  iapply (send_o m K c (.x 2) trivial (by decide) (by decide) _ (toX_dev 2 c) (S := P1 2 (devQ c)) rfl (rect_col (rows_band 2) (col_off 2 c)) rfl rfl rfl) $$ HI HSt HO
  iintro HSt
  ihave HL := (Lc_of_Lv m c 2 2) $$ HL
  iapply (ret_intro c)
  iapply Hk $$ HSt HL

theorem part34 (c : Dev nD) (v2 v5 v8 v32 v903 v946 : BitVec 32) {Kt : _ → sProp 𝕄} :
    Inv m K ⊢ iprop(St m c 17 30 -∗ Lc m c -∗ (∀ r, St m c 17 32 -∗ Lf m c 3 2 -∗ oP m c (P2 2 (devQ c)) -∗ Kt r)
      -∗ WP c (onBufs (k0_part34 (F := F)) c v2 v5 v8 v32 v903 v946) Kt) := by
  simp only [onBufs, k0_part34_eq_skeleton]
  unfold k0_part34_skel
  simp only [Prog.lift, Prog.bind_op, Prog.bind_ret, Prog.pure_eq_ret]
  iintro #HI HSt HL Hk
  iapply (copy_start m c 3 2 (off_loc c 3 2) rfl rfl) $$ HL
  iintro HL
  iapply (wait_o m K c (.x 2) trivial (P1 2 (devQ c)) (P1 2 (qx (devQ c))) (P2 2 (devQ c)) rfl (congrArg (oR (.x 2)) (devQ_xp c)) (P2_split 2 (devQ c))
    (by decide) (by decide) rfl rfl rfl rfl) $$ HI HSt
  iintro HSt HO
  iapply (ret_intro c)
  iapply Hk $$ HSt HL HO

theorem part35 (c : Dev nD) (v2 v5 v30 : BitVec 32) {Kt : _ → sProp 𝕄} :
    Inv m K ⊢ iprop(St m c 17 32 -∗ Lf m c 3 2 -∗ oP m c (P2 2 (devQ c)) -∗ (∀ r, St m c 18 34 -∗ Lv m c 3 2 -∗ cP c 3 2 (CR m c) -∗ Kt r)
      -∗ WP c (onBufs (k0_part35 (F := F)) c v2 v5 v30) Kt) := by
  simp only [onBufs, k0_part35_eq_skeleton]
  unfold k0_part35_skel
  simp only [Prog.lift, Prog.bind_op, Prog.bind_ret, Prog.pure_eq_ret]
  iintro #HI HSt HL HO Hk
  iapply (send_o m K c (.y 2) trivial (by decide) (by decide) _ (toY_dev 2 c) (S := P2 2 (devQ c)) rfl (rect_pair (rows_band 2) (pair_off 2 c)) rfl rfl rfl) $$ HI HSt HO
  iintro HSt
  iapply (wait_z m K c 3 2 (by decide) (by decide) rfl rfl rfl rfl) $$ HI HSt
  iintro HSt HC
  iapply (copy_wait m K c 3 2 rfl rfl) $$ HI HSt HL
  iintro HSt HL
  iapply (ret_intro c)
  iapply Hk $$ HSt HL HC

theorem part36 (c : Dev nD) (v2 v5 v8 v32 : BitVec 32) {Kt : _ → sProp 𝕄} :
    Inv m K ⊢ iprop(St m c 18 34 -∗ Lv m c 3 2 -∗ cP c 3 2 (CR m c) -∗ oA (F := F) c (pb 3 ×ˢ {devQ c})
      -∗ (∀ r, St m c 19 34 -∗ Lc m c -∗ cP c 3 2 (CR m c) -∗ oP m c (P1 4 (devQ c)) -∗ Kt r)
      -∗ WP c (onBufs (k0_part36 (F := F)) c v2 v5 v8 v32) Kt) := by
  simp only [onBufs, k0_part36_eq_skeleton]
  unfold k0_part36_skel
  simp only [Prog.lift, Prog.bind_op, Prog.bind_ret, Prog.pure_eq_ret]
  iintro #HI HSt HL HC HO Hk
  iapply (load_cl m c 3 2 rfl rfl) $$ HL HC
  iintro HL HC
  iapply (load_blk c 3 rfl (st_off 3 c)) $$ HO
  iintro %v HO
  iapply (store_blk m c 3 rfl (st_off 3 c) rfl) $$ HO
  iintro HO
  ihave HO := ((oP_join m (blk_last (devQ c))).1) $$ HO
  icases HO with ⟨HO, HO'⟩
  iapply (send_o m K c (.x 3) trivial (by decide) (by decide) _ (toX_dev 3 c) (S := P1 3 (devQ c)) rfl (rect_col (rows_band 3) (col_off 3 c)) rfl rfl rfl) $$ HI HSt HO
  iintro HSt
  iapply (ret_intro c)
  iapply Hk $$ HSt HL HC HO'

theorem part37 (c : Dev nD) (v2 v5 v8 v991 : BitVec 32) {Kt : _ → sProp 𝕄} :
    Inv m K ⊢ iprop(St m c 19 34 -∗ oP m c (P1 4 (devQ c)) -∗ (∀ r, St m c 21 36 -∗ Kt r)
      -∗ WP c (onBufs (k0_part37 (F := F)) c v2 v5 v8 v991) Kt) := by
  simp only [onBufs, k0_part37_eq_skeleton]
  unfold k0_part37_skel
  simp only [Prog.lift, Prog.bind_op, Prog.bind_ret, Prog.pure_eq_ret]
  iintro #HI HSt HO Hk
  iapply (send_o m K c (.y 3) trivial (by decide) (by decide) _ (toY_dev 3 c) (S := P1 4 (devQ c)) rfl (rect_col (rows_band 4) (col_off 4 c)) rfl rfl rfl) $$ HI HSt HO
  iintro HSt
  iapply (wait_o m K c (.x 3) trivial (P1 3 (devQ c)) (P1 3 (qx (devQ c))) (P2 3 (devQ c)) rfl (congrArg (oR (.x 3)) (devQ_xp c)) (P2_split 3 (devQ c))
    (by decide) (by decide) rfl rfl rfl rfl) $$ HI HSt
  iintro HSt HO
  iapply (send_o m K c .ya trivial (by decide) (by decide) _ (toY_dev 4 c) (S := P2 3 (devQ c)) rfl (rect_pair (rows_band 3) (pair_off 3 c)) rfl rfl rfl) $$ HI HSt HO
  iintro HSt
  iapply (ret_intro c)
  iapply Hk $$ HSt

theorem part38 (c : Dev nD) (v2 v5 v8 v32 v1005 : BitVec 32) {Kt : _ → sProp 𝕄} :
    Inv m K ⊢ iprop(St m c 21 36 -∗ (∀ r, St m c 22 38 -∗ oP m c (P1 4 (qy (devQ c))) -∗ Kt r)
      -∗ WP c (onBufs (k0_part38 (F := F)) c v2 v5 v8 v32 v1005) Kt) := by
  simp only [onBufs, k0_part38_eq_skeleton]
  unfold k0_part38_skel
  simp only [Prog.lift, Prog.bind_op, Prog.bind_ret, Prog.pure_eq_ret]
  iintro #HI HSt Hk
  iapply (wait_so m K c (.y 3) trivial (P1 4 (devQ c)) rfl (by decide) (by decide) rfl rfl) $$ HI HSt
  iintro HSt HO
  iapply (wait_ro m K c (.y 3) trivial (P1 4 (qy (devQ c))) (congrArg (oR (.y 3)) (devQ_yp c)) (by decide) (by decide) rfl rfl) $$ HI HSt
  iintro HSt HO'
  iapply (send_o m K c .xb1 trivial (by decide) (by decide) _ (toX_dev 4 c) (S := P1 4 (devQ c)) rfl (rect_col (rows_band 4) (col_off 4 c)) rfl rfl rfl) $$ HI HSt HO
  iintro HSt
  iapply (ret_intro c)
  iapply Hk $$ HSt HO'

theorem part39 (c : Dev nD) {Kt : _ → sProp 𝕄} :
    Inv m K ⊢ iprop(St m c 22 38 -∗ oP m c (P1 4 (qy (devQ c))) -∗ oP m c (rb 0) -∗ oP m c (rb 1) -∗ gP m c
      -∗ (∀ r, St m c 23 38 -∗ oN m c (rb 0) -∗ oN m c (rb 1) -∗ gP m c -∗ Kt r)
      -∗ WP c (onBufs (k0_part39 (F := F)) c) Kt) := by
  simp only [onBufs, k0_part39_eq_skeleton]
  unfold k0_part39_skel
  simp only [Prog.lift, Prog.bind_op, Prog.bind_ret, Prog.pure_eq_ret]
  iintro #HI HSt HO H0 H1 HG Hk
  iapply (send_o m K c .xb2 trivial (by decide) (by decide) _ (toX_dev 5 c) (S := P1 4 (qy (devQ c))) rfl (rect_col (rows_band 4) (off_last c)) rfl rfl rfl) $$ HI HSt HO
  iintro HSt
  iapply (norm_rows m c 0 rfl rfl rfl) $$ H0 HG
  iintro H0 HG
  iapply (norm_rows m c 1 rfl rfl rfl) $$ H1 HG
  iintro H1 HG
  iapply (ret_intro c)
  iapply Hk $$ HSt H0 H1 HG

theorem part40 (c : Dev nD) (v2 v8 v949 : BitVec 32) {Kt : _ → sProp 𝕄} :
    Inv m K ⊢ iprop(St m c 23 38 -∗ gP m c -∗ (∀ r, St m c 23 41 -∗ gP m c -∗ oN m c (rb 2) -∗ oP m c (P2 3 (devQ c)) -∗ Kt r)
      -∗ WP c (onBufs (k0_part40 (F := F)) c v2 v8 v949) Kt) := by
  simp only [onBufs, k0_part40_eq_skeleton]
  unfold k0_part40_skel
  simp only [Prog.lift, Prog.bind_op, Prog.bind_ret, Prog.pure_eq_ret]
  iintro #HI HSt HG Hk
  iapply (wait_o m K c (.y 2) trivial (P2 2 (devQ c)) (P2 2 (qy (devQ c))) (rb 2) rfl (congrArg (oR (.y 2)) (devQ_yp c)) (rb_split 2 (devQ c))
    (by decide) (by decide) rfl rfl rfl rfl) $$ HI HSt
  iintro HSt HO
  iapply (norm_rows m c 2 rfl rfl rfl) $$ HO HG
  iintro HN HG
  iapply (wait_so m K c .ya trivial (P2 3 (devQ c)) rfl (by decide) (by decide) rfl rfl) $$ HI HSt
  iintro HSt HO
  iapply (ret_intro c)
  iapply Hk $$ HSt HG HN HO

theorem part41 (c : Dev nD) (v5 v8 v1033 v1057 v1068 v1147 v1122 : BitVec 32) {Kt : _ → sProp 𝕄} :
    Inv m K ⊢ iprop(St m c 23 41 -∗ oP m c (P2 3 (devQ c))
      -∗ (St m c 23 46 -∗ oP m c (rb 3) -∗ Kt ⟨k0_pay17 (YB m (devZ c) 3), k0_pay18 (YB m (devZ c) 3)⟩)
      -∗ WP c (onBufs (k0_part41 (F := F)) c v5 v8 v1033 v1057 v1068 v1147 v1122) Kt) := by
  simp only [onBufs, k0_part41_eq_skeleton]
  unfold k0_part41_skel
  simp only [Prog.lift, Prog.bind_op, Prog.bind_ret, Prog.pure_eq_ret]
  iintro #HI HSt HA Hk
  iapply (wait_ro m K c .ya trivial (P2 3 (qy (devQ c))) (congrArg (oR .ya) (devQ_yp c)) (by decide) (by decide) rfl rfl) $$ HI HSt
  iintro HSt HA'
  ihave HA := ((oP_join m ⟨dis_P2 3 (devQ c), rfl⟩).2) $$ [HA HA']
  · isplitl [HA]; · iexact HA
    iexact HA'
  iapply (wait_o m K c .xb1 trivial (P1 4 (devQ c)) (P1 4 (qx (devQ c))) (P2 4 (devQ c)) rfl (congrArg (oR .xb1) (devQ_xp c)) (P2_split 4 (devQ c))
    (by decide) (by decide) rfl rfl rfl rfl) $$ HI HSt
  iintro HSt HB
  iapply (wait_o m K c .xb2 trivial (P1 4 (qy (devQ c))) (P1 4 (qx (qy (devQ c)))) (P2 4 (qy (devQ c))) rfl
    ((congrArg (oR .xb2) (devQ_xp c)).trans (congrArg (P1 4) (qy_qx (devQ c)))) (P2_split 4 (qy (devQ c))) (by decide) (by decide) rfl rfl rfl rfl) $$ HI HSt
  iintro HSt HB'
  ihave HB := ((oP_join m ⟨dis_P2 4 (devQ c), rfl⟩).2) $$ [HB HB']
  · isplitl [HB]; · iexact HB
    iexact HB'
  ihave HA := ((oP_join m (rb3_split (devQ c))).2) $$ [HA HB]
  · isplitl [HA]; · iexact HA
    iexact HB
  iapply (load_rows m c 3 rfl) $$ HA
  iintro HA
  iapply (ret_intro c)
  iapply Hk $$ HSt HA

end Cert.RingProof

end
-- ==== Proof.Body.lean ====
/-
# The whole body

The parts in their order.
-/
module

public import proofs.«01_k».proof.Proof.Enter
public import proofs.«01_k».proof.Proof.PartsA
public import proofs.«01_k».proof.Proof.PartsB
public import proofs.«01_k».proof.Proof.PartsC

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-- What the body starts from: what it owes, its part in the barrier, the landing places in its buffers, its transfers, the
    staging block, its own column of the output, and the scale. -/
def bodyIn (c : Dev nD) : sProp 𝕄 :=
  iprop((∃ W, owes (c : Thread nD τ) (owe₀ c) W) ∗ atBar c ∗ places (F := F) c ∗ bigSep Finset.univ (fun t => iprop(ready m c t ∗ expected c t))
    ∗ Lc m c ∗ oA (F := F) c (P1 0 (devQ c)) ∗ oA (F := F) c (P1 1 (devQ c)) ∗ oA (F := F) c (P1 2 (devQ c)) ∗ oA (F := F) c (pb 3 ×ˢ {devQ c}) ∗ gP m c)

/-- What it ends with: nothing owed, its semaphores at zero, its buffers, the output normalized. -/
def bodyOut (c : Dev nD) : sProp 𝕄 :=
  iprop(St m c 23 46 ∗ semVal (cell c .bar) 0 ∗ Lc m c ∗ (cP c 0 2 (CR m c) ∗ cP c 1 2 (CR m c) ∗ cP c 2 2 (CR m c) ∗ cP c 3 2 (CR m c))
    ∗ gP m c ∗ (oLoc c ↦{fullShare} (NY m c : Buf (Elt F) (oLoc c))))

theorem bind_intro (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

theorem run_body (c : Dev nD) {Kt : PUnit → sProp 𝕄} :
    Inv m K ⊢ iprop(bodyIn m c -∗ (bodyOut m c -∗ Kt ⟨⟩) -∗ WP c (onBufs (cc0_body (F := F))) Kt) := by
  simp only [onBufs, cc0_body_eq_skeleton]
  unfold cc0_body_skel
  rw [k0_part42_eq_skeleton]
  unfold k0_part42_skel
  unfold bodyIn bodyOut
  iintro #HI ⟨HO, Hbar, Hpl, HB, HL, O0, O1, O2, O3, HG⟩ Hk
  iapply (bind_intro c)
  iapply (bind_intro c)
  iapply (part1 c)
  iintro %v2 %v5 %v8 %v19 %v30 %v32 %v34 %v35
  iapply (bind_intro c)
  iapply (part2 m K c) $$ HI HO Hbar Hpl HB
  iintro %r HS Hz
  iapply (bind_intro c)
  iapply (part3 m K c) $$ HI HS
  iintro %r HS
  iapply (bind_intro c)
  iapply (part4 m K c) $$ HI HL
  iintro %r HL
  iapply (bind_intro c)
  iapply (part5 m K c) $$ HI HS HL
  iintro %r HS HL HC
  iapply (bind_intro c)
  iapply (part6 m K c) $$ HI HS HL HC
  iintro %r HS HL
  iapply (bind_intro c)
  iapply (part7 m K c) $$ HI HS HL
  iintro %r HS HL
  iapply (bind_intro c)
  iapply (part8 m K c) $$ HI HS HL
  iintro %r HS HL
  iapply (bind_intro c)
  iapply (part9 m K c) $$ HI HS HL
  iintro %r HS HL
  iapply (bind_intro c)
  iapply (part10 m K c) $$ HI HS HL
  iintro %r HS HL HC
  iapply (bind_intro c)
  iapply (part11 m K c) $$ HI HS HC
  iintro %r HS
  iapply (bind_intro c)
  iapply (part12 m K c) $$ HI HS HL
  iintro %r HS HL
  iapply (bind_intro c)
  iapply (part13 m K c) $$ HI HS HL
  iintro %r HS HL HC
  iapply (bind_intro c)
  iapply (part14 m K c) $$ HI HS HC
  iintro %r HS
  iapply (bind_intro c)
  iapply (part15 m K c) $$ HI HS HL
  iintro %r HS HL
  iapply (bind_intro c)
  iapply (part16 m K c) $$ HI HS HL
  iintro %r HS HL C0
  iapply (bind_intro c)
  iapply (part17 m K c) $$ HI HS O0
  iintro %r HS
  iapply (bind_intro c)
  iapply (part18 m K c) $$ HI HS HL
  iintro %r HS HL C1
  iapply (bind_intro c)
  iapply (part19 m K c) $$ HI HS HL C1 O1
  iintro %r HS HL C1
  iapply (bind_intro c)
  iapply (part20 m K c) $$ HI HS HL
  iintro %r HS HL HC
  iapply (bind_intro c)
  iapply (part21 m K c) $$ HI HS HL HC
  iintro %r HS HL
  iapply (bind_intro c)
  iapply (part22 m K c) $$ HI HS HL
  iintro %r HS HL O0
  iapply (bind_intro c)
  iapply (part23 m K c) $$ HI HS O0
  iintro %r HS
  iapply (bind_intro c)
  iapply (part24 m K c) $$ HI HS HL
  iintro %r HS HL
  iapply (bind_intro c)
  iapply (part25 m K c) $$ HI HS HL
  iintro %r HS HL O1
  iapply (bind_intro c)
  iapply (part26 m K c) $$ HI HS O1
  iintro %r HS
  iapply (bind_intro c)
  iapply (part27 m K c) $$ HI HS HL
  iintro %r HS HL HC
  iapply (bind_intro c)
  iapply (part28 m K c) $$ HI HS HL HC
  iintro %r HS HL O0
  iapply (bind_intro c)
  iapply (part29 m K c) $$ HI HS O0
  iintro %r HS O0 HC
  iapply (bind_intro c)
  iapply (part30 m K c) $$ HI HS HL HC
  iintro %r HS HL
  iapply (bind_intro c)
  iapply (part31 m K c) $$ HI HS HL
  iintro %r HS HL O1
  iapply (bind_intro c)
  iapply (part32 m K c) $$ HI HS HL
  iintro HS HL C2
  iapply (bind_intro c)
  iapply (part33 m K c) $$ HI HS HL O2
  iintro %r HS HL
  iapply (bind_intro c)
  iapply (part34 m K c) $$ HI HS HL
  iintro %r HS HL O2
  iapply (bind_intro c)
  iapply (part35 m K c) $$ HI HS HL O2
  iintro %r HS HL C3
  iapply (bind_intro c)
  iapply (part36 m K c) $$ HI HS HL C3 O3
  iintro %r HS HL C3 O3
  iapply (bind_intro c)
  iapply (part37 m K c) $$ HI HS O3
  iintro %r HS
  iapply (bind_intro c)
  iapply (part38 m K c) $$ HI HS
  iintro %r HS O3
  iapply (bind_intro c)
  iapply (part39 m K c) $$ HI HS O3 O0 O1 HG
  iintro %r HS O0 O1 HG
  iapply (bind_intro c)
  iapply (part40 m K c) $$ HI HS HG
  iintro %r HS HG O2 O3
  iapply (bind_intro c)
  iapply (part41 m K c) $$ HI HS O3
  iintro HS O3
  iapply (bind_intro c)
  iapply (load_g m c rfl) $$ HG
  iintro HG
  iapply (ret_intro c)
  iapply (ret_intro c)
  iapply (bind_intro c)
  iapply (load_rows m c 3 rfl) $$ O3
  iintro O3
  iapply (ret_intro c)
  iapply (bind_intro c)
  iapply (store_rows m c 3 rfl rfl) $$ O3
  iintro O3
  iapply (ret_intro c)
  iapply (ret_intro c)
  ihave HN := (oN_all m c) $$ [O0 O1 O2 O3]
  · isplitl [O0]; · iexact O0
    isplitl [O1]; · iexact O1
    isplitl [O2]; · iexact O2
    iexact O3
  iapply Hk
  isplitl [HS]; · iexact HS
  isplitl [Hz]; · iexact Hz
  isplitl [HL]; · iexact HL
  isplitl [C0 C1 C2 C3]
  · isplitl [C0]; · iexact C0
    isplitl [C1]; · iexact C1
    isplitl [C2]; · iexact C2
    iexact C3
  isplitl [HG]; · iexact HG
  iexact HN

end Cert.RingProof

end
-- ==== Proof.Deal.lean ====
/-
# What the launch deals out

The launch funds the cells' ghost state and mints one token per duty. All cells' invariants are allocated at once; each
token then goes to the device that performs the duty, and each device keeps the positions at its own cells and the credits
for what the others owe it.
-/
module

public import proofs.«01_k».proof.Proof.Body

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores -/

/-- The kinds of cells as one and two families. -/
def ckE : Unit ⊕ T ⊕ T ≃ CK where
  toFun | .inl _ => .bar | .inr (.inl t) => .s t | .inr (.inr t) => .r t
  invFun | .bar => .inl () | .s t => .inr (.inl t) | .r t => .inr (.inr t)
  left_inv := by rintro (⟨⟩ | t | t) <;> rfl
  right_inv := by rintro (_ | t | t) <;> rfl

theorem bigSep_ck (Φ : CK → sProp 𝕄) :
    bigSep Finset.univ Φ = iprop(Φ .bar ∗ bigSep Finset.univ (fun t => Φ (.s t)) ∗ bigSep Finset.univ (fun t => Φ (.r t))) := by
  rw [bigSep_univ_equiv ckE, bigSep_univ_sum, bigSep_univ_sum, bigSep_univ_eq_bigSepL [()] (by decide) (by decide), bigSepL_singleton]
  rfl

/-- The semaphores the kernel declares: one per departure, one per arrival, and the one of the copies within a device. -/
def osem : T ⊕ T ⊕ Unit → SemLoc sig
  | .inl t => .dma (sSem t)
  | .inr (.inl t) => .dma (rSem t)
  | .inr (.inr _) => .dma locS

theorem ownSemFacts : Pipeline.OwnSemFacts cfg0.spec osem := by decide +kernel

theorem ownSems_eq (c : Dev nD) :
    (Pipeline.ownSems0 (Ix := Unit) (Name := ℕ) (U := UU) (Lvl := ℕ) (Val := Elt F) (τ := τ) osem c : sProp 𝕄)
      = iprop(bigSep Finset.univ (fun t => semVal (cell c (.s t)) 0) ∗ bigSep Finset.univ (fun t => semVal (cell c (.r t)) 0)
          ∗ semVal ((c : Thread nD τ), .dma locS) 0) := by
  unfold Pipeline.ownSems0
  rw [bigSep_univ_sum, bigSep_univ_sum, bigSep_univ_eq_bigSepL [()] (by decide) (by decide), bigSepL_singleton]
  rfl

/-- The barrier's semaphore outlives the kernel. -/
theorem unscoped_eq (c : Dev nD) : (unscopedSems0 c : sProp 𝕄) = semVal (cell c .bar) 0 := by
  unfold unscopedSems0; rw [bigSep_eq_bigSepL_of_eq [SemLoc.reg barS] (by decide +kernel) (by decide), bigSepL_singleton]; rfl

theorem sems_eq (c : Dev nD) :
    iprop(Pipeline.ownSems0 (Ix := Unit) (Name := ℕ) (U := UU) (Lvl := ℕ) (Val := Elt F) (τ := τ) osem c ∗ unscopedSems0 c)
      ⊢ (iprop(bigSep Finset.univ (fun k => semVal (cell c k) 0) ∗ semVal ((c : Thread nD τ), .dma locS) 0) : sProp 𝕄) := by
  rw [ownSems_eq, unscoped_eq, bigSep_ck]
  iintro ⟨⟨H1, H2, H3⟩, H4⟩
  isplitr [H3]
  · isplitl [H4]; · iexact H4
    isplitl [H1]; · iexact H1
    iexact H2
  iexact H3

/-! ## The ghost state funded -/

theorem kcell_inj : Function.Injective kcell := by
  rintro ⟨c, k⟩ ⟨c', k'⟩ h
  have hk : k = k' := csem_inj (congrArg Prod.snd h)
  have hc : c = c' := congrArg (fun g : GSem nD τ sig => g.1.1) h
  rw [hc, hk]

def allCells : Finset (GSem nD τ sig) := Finset.univ.map ⟨kcell, kcell_inj⟩

/-- A duty: one of a barrier's four, a departure's, an arrival's. -/
abbrev Duties : Type := Fin 4 ⊕ T ⊕ T

/-- A duty's cell's kind, and its name at that cell. -/
def dutyAt : Duties → CK × Fin 4
  | .inl j => (.bar, j)
  | .inr (.inl t) => (.s t, 0)
  | .inr (.inr t) => (.r t, 0)

theorem dutyAt_inj : Function.Injective dutyAt := by
  rintro (a | a | a) (b | b | b) h <;> simp_all [dutyAt]

def tokAt (x : Dev nD × Duties) : GSem nD τ sig × ℕ × Fin 4 := (cell x.1 (dutyAt x.2).1, 0, (dutyAt x.2).2)

theorem tokAt_inj : Function.Injective tokAt := by
  rintro ⟨c, d⟩ ⟨c', d'⟩ h
  have h1 : (c, (dutyAt d).1) = (c', (dutyAt d').1) := kcell_inj (congrArg Prod.fst h)
  have h2 : (dutyAt d).2 = (dutyAt d').2 := congrArg (fun x : GSem nD τ sig × ℕ × Fin 4 => x.2.2) h
  exact Prod.ext (congrArg (fun x : Dev nD × CK => x.1) h1) (dutyAt_inj (Prod.ext (congrArg (fun x : Dev nD × CK => x.2) h1) h2))

def allToks : Finset (GSem nD τ sig × ℕ × Fin 4) := Finset.univ.map ⟨tokAt, tokAt_inj⟩

/-- The tokens of the duties at a device's own cells. -/
def toksAt (c : Dev nD) : sProp 𝕄 :=
  iprop(bigSep Finset.univ (fun j => dutyTok ER (cell c .bar) 0 j) ∗ bigSep Finset.univ (fun t => dutyTok ER (cell c (.s t)) 0 0)
    ∗ bigSep Finset.univ (fun t => dutyTok ER (cell c (.r t)) 0 0))

/-- What the launch deals a device. -/
def G (c : Dev nD) : sProp 𝕄 :=
  iprop(bigSep Finset.univ (fun k => roundState ER (rd m) (cell c k) 0) ∗ bigSep Finset.univ (fun k => reached ER (cell c k) 0)
    ∗ bigSep Finset.univ (fun k => atPos ER (cell c k) 0 ∅ 0) ∗ toksAt c)

theorem bigSep_cells (Φ : GSem nD τ sig → sProp 𝕄) :
    bigSep allCells Φ = bigSep Finset.univ fun c : Dev nD => bigSep Finset.univ fun k => Φ (cell c k) := by
  unfold allCells; rw [bigSep_map, bigSep_univ_prod]; rfl

theorem bigSep_toks :
    bigSep allToks (fun x => (dutyTok ER x.1 x.2.1 x.2.2 : sProp 𝕄)) = bigSep Finset.univ fun c : Dev nD => toksAt c := by
  unfold allToks toksAt
  rw [bigSep_map, bigSep_univ_prod]
  exact bigSep_congr fun c _ => by rw [bigSep_univ_sum, bigSep_univ_sum]; rfl

theorem fund_cells : BI.own (ER (initOf allCells allToks)) ⊢ (|==> bigSep Finset.univ (G m) : sProp 𝕄) := by
  refine (Rounds.fund ER (rd m) allCells allToks).trans (BI.bupd_mono ?_)
  rw [bigSep_cells, bigSep_cells, bigSep_cells, bigSep_toks]
  unfold G
  rw [bigSep_sep' _ _ _, bigSep_sep' _ _ _, bigSep_sep' _ _ _]
  exact Entails.refl _

/-! ## The tokens handed to those who perform the duties -/

/-- A device's tokens at its neighbours' barriers. -/
def barToks (c : Dev nD) : sProp 𝕄 :=
  iprop(dutyTok ER (cell (lft c) .bar) 0 1 ∗ dutyTok ER (cell (rgt c) .bar) 0 0 ∗ dutyTok ER (cell (xp c) .bar) 0 2 ∗ dutyTok ER (cell (yp c) .bar) 0 3)

/-- A family over devices and transfers, taken over the devices first or over the transfers first. -/
theorem bigSep_flip (Φ : Dev nD → T → sProp 𝕄) :
    bigSep Finset.univ (fun c => bigSep Finset.univ fun t => Φ c t) = bigSep Finset.univ fun t => bigSep Finset.univ fun c => Φ c t := by
  rw [← bigSep_univ_prod (fun x : Dev nD × T => Φ x.1 x.2), bigSep_univ_equiv (Equiv.prodComm T (Dev nD)), bigSep_univ_prod]
  rfl

theorem arrivals_around : bigSep Finset.univ (fun c => bigSep Finset.univ fun t => (dutyTok ER (cell c (.r t)) 0 0 : sProp 𝕄))
    = bigSep Finset.univ fun c => bigSep Finset.univ fun t => dutyTok ER (cell (dD t c) (.r t)) 0 0 := by
  rw [bigSep_flip, bigSep_flip fun c t => dutyTok ER (cell (dD t c) (.r t)) 0 0]
  exact bigSep_congr fun t _ => bigSep_univ_equiv (dstE t) (fun c => (dutyTok ER (cell c (.r t)) 0 0 : sProp 𝕄))

theorem signals_around : bigSep Finset.univ (fun c => bigSep Finset.univ fun j => (dutyTok ER (cell c .bar) 0 j : sProp 𝕄))
    ⊢ bigSep Finset.univ fun c => barToks c := by
  unfold barToks
  rw [bigSep_congr (s := Finset.univ) fun c _ => bigSep_univ_eq_bigSepL [(1 : Fin 4), 0, 2, 3] (by decide) (by decide) _]
  simp only [bigSepL_cons_cons, bigSepL_singleton]
  refine (Entails.of_eq (bigSep_sep' _ _ _)).trans ((sep_mono_right ((Entails.of_eq (bigSep_sep' _ _ _)).trans
    (sep_mono_right (Entails.of_eq (bigSep_sep' _ _ _))))).trans ?_)
  rw [bigSep_sep' _ _ _, bigSep_sep' _ _ _, bigSep_sep' _ _ _,
    bigSep_univ_equiv (dstE (.z 0 0)).symm (fun c : Dev nD => (dutyTok ER (cell c .bar) 0 1 : sProp 𝕄)),
    bigSep_univ_equiv (dstE (.z 0 0)) (fun c : Dev nD => (dutyTok ER (cell c .bar) 0 0 : sProp 𝕄)),
    bigSep_univ_equiv (dstE (.x 0)) (fun c : Dev nD => (dutyTok ER (cell c .bar) 0 2 : sProp 𝕄)),
    bigSep_univ_equiv (dstE (.y 0)) (fun c : Dev nD => (dutyTok ER (cell c .bar) 0 3 : sProp 𝕄))]
  exact .rfl

/-! ## All cells at once -/

/-- A device's tokens and positions for a transfer. -/
def forT (c : Dev nD) (t : T) : sProp 𝕄 :=
  iprop(dutyTok ER (cell c (.s t)) 0 0 ∗ dutyTok ER (cell (dD t c) (.r t)) 0 0 ∗ atPos ER (cell c (.s t)) 0 ∅ 0 ∗ atPos ER (cell c (.r t)) 0 ∅ 0)

/-- A device's own part of the ghost state. -/
def own (c : Dev nD) : sProp 𝕄 :=
  iprop(barToks c ∗ atPos ER (cell c .bar) 0 ∅ 0 ∗ bigSep Finset.univ (forT c) ∗ semVal ((c : Thread nD τ), .dma locS) 0)

/-- What a device has once the invariants are in place. -/
def G' (c : Dev nD) : sProp 𝕄 := iprop((∃ K, records m K) ∗ own c)

theorem bigSep_own : iprop(bigSep Finset.univ (fun c : Dev nD => bigSep Finset.univ fun k => (atPos ER (cell c k) 0 ∅ 0 : sProp 𝕄))
      ∗ bigSep Finset.univ (fun c : Dev nD => toksAt c) ∗ bigSep Finset.univ (fun c : Dev nD => semVal ((c : Thread nD τ), .dma locS) 0))
    ⊢ bigSep Finset.univ fun c : Dev nD => own (F := F) c := by
  have e : ∀ c : Dev nD, (own c : sProp 𝕄) = iprop(barToks c ∗ atPos ER (cell c .bar) 0 ∅ 0
      ∗ (bigSep Finset.univ (fun t => dutyTok ER (cell c (.s t)) 0 0) ∗ bigSep Finset.univ (fun t => dutyTok ER (cell (dD t c) (.r t)) 0 0)
        ∗ bigSep Finset.univ (fun t => atPos ER (cell c (.s t)) 0 ∅ 0) ∗ bigSep Finset.univ (fun t => atPos ER (cell c (.r t)) 0 ∅ 0))
      ∗ semVal ((c : Thread nD τ), .dma locS) 0) := fun c => by
    unfold own forT; rw [bigSep_sep' _ _ _, bigSep_sep' _ _ _, bigSep_sep' _ _ _]
  rw [bigSep_congr fun c _ => e c, bigSep_congr (s := Finset.univ) fun c _ => bigSep_ck fun k => (atPos ER (cell c k) 0 ∅ 0 : sProp 𝕄)]
  unfold toksAt
  simp only [bigSep_sep']
  rw [← arrivals_around]
  iintro ⟨⟨A1, A2, A3⟩, ⟨T1, T2, T3⟩, HL⟩
  ihave T1' := (signals_around (F := F)) $$ T1
  unfold barToks
  simp only [bigSep_sep']
  isplitl [T1']; · iexact T1'
  isplitl [A1]; · iexact A1
  isplitr [HL]
  · isplitl [T2]; · iexact T2
    isplitl [T3]; · iexact T3
    isplitl [A2]; · iexact A2
    iexact A3
  iexact HL

/-- All invariants allocated, each device keeps its own part. -/
theorem allocate : iprop(bigSep Finset.univ (fun ck => body ER (rd m) (kcell ck)) ∗ bigSep Finset.univ (fun ck => reached ER (kcell ck) 0)
      ∗ bigSep Finset.univ (fun c : Dev nD => bigSep Finset.univ fun k => atPos ER (cell c k) 0 ∅ 0)
      ∗ bigSep Finset.univ (fun c : Dev nD => toksAt c) ∗ bigSep Finset.univ (fun c : Dev nD => semVal ((c : Thread nD τ), .dma locS) 0))
    ⊢ (|={Set.univ}=> bigSep Finset.univ (G' m) : sProp 𝕄) := by
  iintro ⟨Hb, #Hr, Ha, Ht, HL⟩
  imod (inv_alloc_family Finset.univ (fun ck => body ER (rd m) (kcell ck)) ∅) $$ Hb with ⟨%K, -, #HI⟩
  imodintro
  ihave HO := (bigSep_own (F := F)) $$ [Ha Ht HL]
  · isplitl [Ha]; · iexact Ha
    isplitl [Ht] <;> iassumption
  iapply (bigSep_with_persistent (R := records m K) (Φ := own (F := F)) (Ψ := G' m) fun c _ => ?_)
  · unfold G'
    iintro ⟨HR, H⟩
    isplitl [HR]; · iexists K; iexact HR
    iexact H
  isplitr
  · unfold records
    rw [bigSep_sep' _ _ _]
    isplitl; · iexact HI
    iexact Hr
  iexact HO

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h : ∀ c : Dev nD, iprop(Pipeline.ownSems0 (Ix := Unit) (Name := ℕ) (U := UU) (Lvl := ℕ) (Val := Elt F) (τ := τ) osem c ∗ unscopedSems0 c ∗ G m c)
      ⊢ iprop(bigSep Finset.univ (fun k => body ER (rd m) (kcell (c, k))) ∗ bigSep Finset.univ (fun k => reached ER (kcell (c, k)) 0)
        ∗ bigSep Finset.univ (fun k => atPos ER (cell c k) 0 ∅ 0) ∗ toksAt c ∗ semVal ((c : Thread nD τ), .dma locS) 0) := fun c => by
    unfold G
    iintro ⟨H1, H2, Hst, Hr, Ha, Ht⟩
    ihave Hs := (sems_eq (F := F) c) $$ [H1 H2]
    · isplitl [H1] <;> iassumption
    icases Hs with ⟨Hs, HL⟩
    isplitl [Hs Hst]
    · iapply ((Entails.of_eq (bigSep_sep' Finset.univ (fun k => (semVal (cell c k) 0 : sProp 𝕄)) fun k => roundState ER (rd m) (cell c k) 0).symm).trans
        (bigSep_mono fun k _ => Rounds.body_intro ER (rd m) (kcell (c, k))))
      isplitl [Hs] <;> iassumption
    isplitl [Hr]; · iexact Hr
    isplitl [Ha]; · iexact Ha
    isplitl [Ht] <;> iassumption
  refine (bigSep_mono fun c _ => h c).trans ?_
  simp only [bigSep_sep']
  rw [← bigSep_univ_prod (fun ck => body ER (rd m) (kcell ck)), ← bigSep_univ_prod (fun ck => (reached ER (kcell ck) 0 : sProp 𝕄))]
  exact allocate m

/-! ## The credits for what the others owe -/

theorem tally_cell (c d : Dev nD) (k k' : CK) (n : ℕ) :
    (tallyAt (cell d k') () n : CellTallies nD τ sig Unit) (cell c k) () = if k = k' ∧ c = d then n else 0 := by
  rw [tallyAt_apply]
  refine if_congr ⟨fun h => ?_, fun h => ?_⟩ rfl rfl
  · have := kcell_inj (a₁ := (c, k)) (a₂ := (d, k')) h.1
    exact ⟨(Prod.ext_iff.mp this).2, (Prod.ext_iff.mp this).1⟩
  · rw [h.1, h.2]; exact ⟨rfl, rfl⟩

/-- Summed over the devices, a tally each puts at a permuted device's cell counts once at each. -/
theorem sum_perm (e : Dev nD ≃ Dev nD) (c : Dev nD) (n : ℕ) : (∑ d, if c = e d then n else 0) = n := by
  rw [Finset.sum_congr rfl fun d _ => if_congr (show c = e d ↔ e.symm c = d from ⟨fun h => by rw [h, e.symm_apply_apply], fun h => by rw [← h, e.apply_symm_apply]⟩) rfl rfl,
    Finset.sum_ite_eq, if_pos (Finset.mem_univ _)]

theorem owe_cell (c d : Dev nD) (k : CK) : owe 0 d (cell c k) () = ∑ t, if k = .r t ∧ c = dD t d then N t else 0 := by
  unfold owe
  rw [Finset.filter_true_of_mem fun t _ => Nat.zero_le _, Finset.sum_apply, Finsupp.finset_sum_apply]
  exact Finset.sum_congr rfl fun t _ => tally_cell _ _ _ _ _

theorem owe₀_cell (c d : Dev nD) (k : CK) : owe₀ d (cell c k) () = (∑ t, if k = .r t ∧ c = dD t d then N t else 0)
    + (if k = .bar ∧ c = yp d then 1 else 0) + (if k = .bar ∧ c = xp d then 1 else 0) + (if k = .bar ∧ c = rgt d then 1 else 0)
    + (if k = .bar ∧ c = lft d then 1 else 0) := by
  unfold owe₀ owe₁ owe₂ owe₃
  simp only [Pi.add_apply, Finsupp.add_apply]
  rw [owe_cell, tally_cell, tally_cell, tally_cell, tally_cell]

theorem credit_bar (c : Dev nD) : ∑ d, owe₀ d (cell c .bar) () = 4 := by
  simp only [owe₀_cell, Finset.sum_add_distrib, true_and, reduceCtorEq, false_and, if_false, Finset.sum_const_zero]
  have h1 := sum_perm (dstE (.y 0)) c 1
  have h2 := sum_perm (dstE (.x 0)) c 1
  have h3 := sum_perm (dstE (.z 0 0)) c 1
  have h4 := sum_perm (dstE (.z 0 0)).symm c 1
  exact congrArg₂ (· + ·) (congrArg₂ (· + ·) (congrArg₂ (· + ·) ((Nat.zero_add _).trans h1) h2) h3) h4

theorem credit_r (c : Dev nD) (t : T) : ∑ d, owe₀ d (cell c (.r t)) () = N t := by
  simp only [owe₀_cell, reduceCtorEq, false_and, if_false, Nat.add_zero]
  refine (Finset.sum_congr rfl fun d _ => ?_).trans (sum_perm (dstE t) c (N t))
  rw [Finset.sum_eq_single t (fun t' _ h => if_neg fun h' => h (CK.r.inj h'.1).symm) (fun h => (h (Finset.mem_univ _)).elim)]
  exact if_congr (and_iff_right rfl) rfl rfl

theorem creds (c : Dev nD) : (Pipeline.launchCred owe₀ c : sProp 𝕄)
    ⊢ iprop(cred (tallyAt (cell c .bar) () 4) ∗ bigSep Finset.univ fun t => cred (tallyAt (cell c (.r t)) () (N t))) := by
  have e : ∀ (k : CK) (n : ℕ), ∑ d, owe₀ d (cell c k) () = n →
      tallyOn (cell c k) (launchCredit (Pipeline.owing owe₀) 0 (cell c k)) = (tallyAt (cell c k) () n : CellTallies nD τ sig Unit) := fun k n h => by
    unfold tallyAt
    refine congrArg _ (Finsupp.ext fun u => ?_)
    rw [Pipeline.launchCredit_owing, Finsupp.single_eq_same, ← h]
  unfold Pipeline.launchCred
  refine (bigSep_subset (Finset.subset_univ (Finset.univ.map ⟨csem, csem_inj⟩))).trans ?_
  rw [bigSep_map, bigSep_ck]
  refine sep_mono (Entails.of_eq (congrArg cred (e .bar 4 (credit_bar c)))) (sep_elim_right.trans (bigSep_mono fun t _ => Entails.of_eq (congrArg cred (e (.r t) _ (credit_r c t)))))

end Cert.RingProof

end
-- ==== Proof.Ends.lean ====
/-
# The buffers before and after the body

Before the body a device's landing buffer and output fall apart into the places its neighbours' transfers will land in and
the part it writes itself, and its operand into the chunk it sends first and the rest. After the body the buffers are whole
again.
-/
module

public import proofs.«01_k».proof.Proof.Deal

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The landing buffer -/

/-- The slot of the landing buffer a ring step lands in. -/
def landC : T → Finset S4x3x512x512.Idx
  | .z p s => cset p s
  | _ => ∅

theorem cset_disjoint {p p' : Fin 4} {s s' : Fin 3} (h : (p, s) ≠ (p', s')) : Disjoint (cset p s) (cset p' s') :=
  Finset.disjoint_left.mpr fun i h1 h2 => by
    rw [mem_cset] at h1 h2
    exact h (Prod.ext (Fin.ext (h1.1.symm.trans h2.1)) (Fin.ext (h1.2.symm.trans h2.2)))

theorem landC_disjoint (t t' : T) (h : t ≠ t') : Disjoint (landC t) (landC t') := by
  cases t <;> cases t' <;> first
    | exact Finset.disjoint_empty_left _
    | exact Finset.disjoint_empty_right _
    | exact cset_disjoint fun e => h (by cases e; rfl)

theorem landC_univ : (Finset.univ.filter fun t => cl t = 1).biUnion landC = Finset.univ := by
  ext i
  simp only [Finset.mem_biUnion, Finset.mem_univ, iff_true]
  exact ⟨.z (i 0) (i 1), Finset.mem_filter.mpr ⟨Finset.mem_univ _, rfl⟩, mem_cset.mpr ⟨rfl, rfl⟩⟩

theorem dstAny_lft (c : Dev nD) (t : T) (f : Buf (Elt F) (cLoc c)) (h : cl t = 1) : (cLoc c ↦[landC t]{fullShare} f : sProp 𝕄) ⊢ dstAny t (lft c) := by
  cases t with
  | z p s =>
    show _ ⊢ iprop(∃ f : Buf (Elt F) (cLoc (rgt (lft c))), cLoc (rgt (lft c)) ↦[cset p s]{fullShare} f)
    rw [rgt_lft]
    iintro H
    iexists f
    iexact H
  | _ => exact absurd h (by decide +revert)

/-- The landing buffer is the landing places of the left neighbour's ring steps. -/
theorem places_c (c : Dev nD) : iprop(∃ f : Buf (Elt F) (cLoc c), cLoc c ↦{fullShare} f) ⊢ (barPay 1 (lft c) : sProp 𝕄) := by
  iintro ⟨%f, H⟩
  iapply (show (cLoc c ↦{fullShare} f : sProp 𝕄) ⊢ barPay 1 (lft c) from by
    unfold barPay
    rw [← landC_univ, pointsTo_biUnion _ _ fun t _ t' _ h => landC_disjoint t t' h]
    exact bigSep_mono fun t ht => dstAny_lft c t f (Finset.mem_filter.mp ht).2)
  iexact H

/-! ## The output -/

theorem oA_two {c : Dev nD} {S S' : Finset (Fin 5 × Fin 4)} (h : Disjoint S S') : oA (F := F) c (S ∪ S') ⊢ iprop(oA (F := F) c S ∗ oA (F := F) c S') := by
  unfold oA
  rw [osF_union]
  iintro ⟨%f, H⟩
  ihave H' := ((pointsTo_union (osF_disjoint h)).1) $$ H
  icases H' with ⟨H1, H2⟩
  isplitl [H1]; · iexists f; iexact H1
  iexists f; iexact H2

theorem osF_biUnion {I : Type} [DecidableEq I] (S : Finset I) (A : I → Finset (Fin 5 × Fin 4)) : osF (S.biUnion A) = S.biUnion fun t => osF (A t) := by
  ext i; simp only [mem_osF, Finset.mem_biUnion]

theorem oA_intro {c : Dev nD} {S : Finset (Fin 5 × Fin 4)} (f : Buf (Elt F) (oLoc c)) : iprop(oLoc c ↦[osF S]{fullShare} f) ⊢ (oA (F := F) c S : sProp 𝕄) := by
  unfold oA
  iintro H
  iexists f
  iexact H

theorem oA_family {c : Dev nD} {I : Type} [DecidableEq I] (S : Finset I) (A : I → Finset (Fin 5 × Fin 4)) (h : ∀ t ∈ S, ∀ t' ∈ S, t ≠ t' → Disjoint (A t) (A t')) :
    oA (F := F) c (S.biUnion A) ⊢ bigSep S fun t => oA (F := F) c (A t) := by
  have h1 : ∀ f : Buf (Elt F) (oLoc c), (oLoc c ↦[osF (S.biUnion A)]{fullShare} f : sProp 𝕄) ⊢ bigSep S fun t => oA (F := F) c (A t) := fun f => by
    rw [osF_biUnion, pointsTo_biUnion _ _ fun t ht t' ht' hne => osF_disjoint (h t ht t' ht' hne)]
    exact bigSep_mono fun t _ => oA_intro f
  iintro ⟨%f, H⟩
  iapply (h1 f)
  iexact H

/-- A device's own places of the output: its column block of every band but the last quarter's two, together. -/
def mine (q : Fin 4) : Finset (Fin 5 × Fin 4) := P1 0 q ∪ (P1 1 q ∪ (P1 2 q ∪ pb 3 ×ˢ {q}))
/-- The places of the output the transfers that neighbour `j` lets a device of column `q'` make land in. -/
def landO (j : Fin 4) (q' : Fin 4) : Finset (Fin 5 × Fin 4) := (Finset.univ.filter fun t => cl t = j).biUnion fun t => oR t q'

theorem out_univ : ∀ q : Fin 4, (Finset.univ : Finset (Fin 5 × Fin 4)) = mine q ∪ (landO 2 (qx q) ∪ landO 3 (qy q)) := by decide +kernel
theorem out_disjoint : ∀ q : Fin 4, Disjoint (mine q) (landO 2 (qx q) ∪ landO 3 (qy q)) ∧ Disjoint (landO 2 (qx q)) (landO 3 (qy q)) := by decide +kernel
theorem mine_disjoint : ∀ q : Fin 4, Disjoint (P1 0 q) (P1 1 q ∪ (P1 2 q ∪ pb 3 ×ˢ {q})) ∧ Disjoint (P1 1 q) (P1 2 q ∪ pb 3 ×ˢ {q}) ∧ Disjoint (P1 2 q) (pb 3 ×ˢ {q}) := by decide +kernel
theorem oR_disjoint : ∀ (j q : Fin 4) (t t' : T), cl t = j → cl t' = j → t ≠ t' → Disjoint (oR t q) (oR t' q) := by decide +kernel

/-- What a neighbour's transfers land in, of a device's output. -/
theorem landed_out (c d : Dev nD) (j : Fin 4) (hd : ∀ t, cl t = j → isOut t ∧ dD t d = c) :
    oA (F := F) c (landO j (devQ d)) ⊢ (barPay j d : sProp 𝕄) := by
  unfold landO barPay
  refine (oA_family _ _ fun t ht t' ht' hne => oR_disjoint j _ t t' (Finset.mem_filter.mp ht).2 (Finset.mem_filter.mp ht').2 hne).trans (bigSep_mono fun t ht => ?_)
  obtain ⟨h1, h2⟩ := hd t (Finset.mem_filter.mp ht).2
  rw [dstAny_out h1, h2]
  exact Entails.refl _

theorem places_o (c : Dev nD) : iprop(∃ f : Buf (Elt F) (oLoc c), oLoc c ↦{fullShare} f)
    ⊢ (iprop((barPay 2 (xp c) ∗ barPay 3 (yp c)) ∗ oA (F := F) c (P1 0 (devQ c)) ∗ oA (F := F) c (P1 1 (devQ c)) ∗ oA (F := F) c (P1 2 (devQ c))
        ∗ oA (F := F) c (pb 3 ×ˢ {devQ c})) : sProp 𝕄) := by
  have e : (iprop(∃ f : Buf (Elt F) (oLoc c), oLoc c ↦{fullShare} f) : sProp 𝕄) = oA (F := F) c Finset.univ := by unfold oA; rw [osF_univ]
  have hx : ∀ t, cl t = 2 → isOut t ∧ dD t (xp c) = c := fun t h => by
    cases t <;> first | exact ⟨trivial, xp_xp c⟩ | exact absurd h (by decide +revert)
  have hy : ∀ t, cl t = 3 → isOut t ∧ dD t (yp c) = c := fun t h => by
    cases t <;> first | exact ⟨trivial, yp_yp c⟩ | exact absurd h (by decide +revert)
  rw [e, out_univ (devQ c)]
  iintro H
  ihave H := (oA_two (c := c) (out_disjoint (devQ c)).1) $$ H
  icases H with ⟨H, HL⟩
  ihave H := (show oA (F := F) c (mine (devQ c)) ⊢ _ from oA_two (mine_disjoint (devQ c)).1) $$ H
  icases H with ⟨H0, H⟩
  ihave H := (oA_two (c := c) (mine_disjoint (devQ c)).2.1) $$ H
  icases H with ⟨H1, H⟩
  ihave H := (oA_two (c := c) (mine_disjoint (devQ c)).2.2) $$ H
  icases H with ⟨H2, H3⟩
  ihave HL := (oA_two (c := c) (out_disjoint (devQ c)).2) $$ HL
  icases HL with ⟨HX, HY⟩
  isplitl [HX HY]
  · isplitl [HX]
    · iapply (landed_out c (xp c) 2 hx)
      rw [devQ_xp]
      iexact HX
    · iapply (landed_out c (yp c) 3 hy)
      rw [devQ_yp]
      iexact HY
  isplitl [H0]; · iexact H0
  isplitl [H1]; · iexact H1
  isplitl [H2]; · iexact H2
  iexact H3

/-! ## The operand -/

/-- The block of the operand a first ring step sends. -/
def srcA (c : Dev nD) : T → Finset S1x8192x2048.Idx
  | .z p 0 => aset (devZ c + 3) p (devQ c)
  | _ => ∅
/-- The slot of the landing buffer a later ring step sends. -/
def srcC : T → Finset S4x3x512x512.Idx
  | .z p 1 => cset p 0
  | .z p 2 => cset p 1
  | _ => ∅

theorem aset_disjoint {k q p p' : Fin 4} (h : p ≠ p') : Disjoint (aset k p q) (aset k p' q) :=
  Finset.disjoint_left.mpr fun i h1 h2 => by
    rw [mem_aset] at h1 h2
    exact h (Fin.ext (by omega))

theorem srcA_disjoint (c : Dev nD) (t t' : T) (h : t ≠ t') : Disjoint (srcA c t) (srcA c t') := by
  unfold srcA
  split <;> split <;> first
    | exact Finset.disjoint_empty_left _
    | exact Finset.disjoint_empty_right _
    | exact aset_disjoint fun e => h (by rw [e])

theorem srcC_disjoint (t t' : T) (h : t ≠ t') : Disjoint (srcC t) (srcC t') := by
  unfold srcC
  split <;> split <;> first
    | exact Finset.disjoint_empty_left _
    | exact Finset.disjoint_empty_right _
    | exact cset_disjoint fun e => by first | exact h (by cases e; rfl) | cases e

theorem mem_srcA (c : Dev nD) (i : S1x8192x2048.Idx) :
    i ∈ Finset.univ.biUnion (srcA c) ↔ (i 1).val / 2048 = (devZ c + 3).val ∧ (i 2).val / 512 = (devQ c).val := by
  simp only [Finset.mem_biUnion, Finset.mem_univ, true_and]
  constructor
  · rintro ⟨t, h⟩
    unfold srcA at h
    split at h
    · rw [mem_aset] at h; omega
    · exact absurd h (Finset.notMem_empty _)
  · intro h
    refine ⟨.z ⟨(i 1).val / 512 % 4, Nat.mod_lt _ (by decide)⟩ 0, mem_aset.mpr ⟨?_, h.2⟩⟩
    show (i 1).val / 512 = 4 * (devZ c + 3).val + (i 1).val / 512 % 4
    omega

theorem operand_univ (c : Dev nD) : aRest c ∪ Finset.univ.biUnion (srcA c) = Finset.univ := by
  ext i
  rw [Finset.mem_union, mem_srcA]
  simp only [aRest, Finset.mem_filter, Finset.mem_univ, true_and, iff_true]
  tauto
theorem operand_disjoint (c : Dev nD) : Disjoint (aRest c) (Finset.univ.biUnion (srcA c)) :=
  Finset.disjoint_left.mpr fun i h1 h2 => (Finset.mem_filter.mp h1).2 ((mem_srcA c i).mp h2)

/-- The operand, whole. -/
abbrev aW (c : Dev nD) : sProp 𝕄 := aLoc c ↦{fullShare} (aV m c : Buf (Elt F) (aLoc c))

theorem operand_eq (c : Dev nD) : aW m c ⊣⊢ iprop(aR m c ∗ bigSep Finset.univ fun t => aLoc c ↦[srcA c t]{fullShare} (aV m c : Buf (Elt F) (aLoc c))) := by
  have h := pointsTo_union (ℓ := aLoc c) (q := fullShare) (Val := Elt F) (f := (aV m c : Buf (Elt F) (aLoc c))) (Ix := Unit) (Name := ℕ) (U := UU) (Lvl := ℕ) (operand_disjoint c)
  rw [operand_univ, pointsTo_biUnion _ _ fun t _ t' _ h => srcA_disjoint c t t' h] at h
  exact h

theorem src_eq (c : Dev nD) (t : T) : srcHeld m t c = (aLoc c ↦[srcA c t]{fullShare} (aV m c : Buf (Elt F) (aLoc c)) : sProp 𝕄) := by
  unfold srcHeld srcA
  split
  · rfl
  · split
    · next h => exact absurd rfl (h _)
    · exact pointsTo_empty.symm

theorem bank_eq (c : Dev nD) (t : T) : bank m t c
    ⊢ (iprop((aLoc c ↦[srcA c t]{fullShare} (aV m c : Buf (Elt F) (aLoc c))) ∗ cLoc c ↦[srcC t]{fullShare} (CA m c : Buf (Elt F) (cLoc c))) : sProp 𝕄) := by
  have ha : (aLoc c ↦[∅]{fullShare} (aV m c : Buf (Elt F) (aLoc c)) : sProp 𝕄) = iprop(emp) := pointsTo_empty
  have hc : (cLoc c ↦[∅]{fullShare} (CA m c : Buf (Elt F) (cLoc c)) : sProp 𝕄) = iprop(emp) := pointsTo_empty
  match t with
  | .z p 0 => show sendPay m (.z p 0) c ⊢ iprop(_ ∗ cLoc c ↦[∅]{fullShare} _); rw [hc]; exact (sep_emp (PROP := sProp 𝕄)).2
  | .z p 1 => show sendPay m (.z p 1) c ⊢ iprop((aLoc c ↦[∅]{fullShare} _) ∗ _); rw [ha]; exact (emp_sep (PROP := sProp 𝕄)).2
  | .z p 2 => show sendPay m (.z p 2) c ⊢ iprop((aLoc c ↦[∅]{fullShare} _) ∗ _); rw [ha]; exact (emp_sep (PROP := sProp 𝕄)).2
  | .x _ | .y _ | .ya | .xb1 | .xb2 =>
    show iprop(emp) ⊢ iprop((aLoc c ↦[∅]{fullShare} _) ∗ cLoc c ↦[∅]{fullShare} _); rw [ha, hc]; exact (emp_sep (PROP := sProp 𝕄)).2

/-! ## The buffers whole again -/

theorem last_disjoint : Disjoint (Finset.univ.biUnion srcC) (Finset.univ.biUnion fun p : Fin 4 => cset p 2) := by
  refine Finset.disjoint_left.mpr fun i h1 h2 => ?_
  obtain ⟨t, -, h⟩ := Finset.mem_biUnion.mp h1
  obtain ⟨p, -, h'⟩ := Finset.mem_biUnion.mp h2
  have h2 := (mem_cset.mp h').2
  unfold srcC at h
  split at h
  · exact absurd ((mem_cset.mp h).2.symm.trans h2) (by decide)
  · exact absurd ((mem_cset.mp h).2.symm.trans h2) (by decide)
  · exact absurd h (Finset.notMem_empty _)

theorem slots_univ : Finset.univ.biUnion srcC ∪ (Finset.univ.biUnion fun p : Fin 4 => cset p 2) = Finset.univ := by
  ext i
  simp only [Finset.mem_union, Finset.mem_biUnion, Finset.mem_univ, true_and, iff_true]
  have hs : (i 1).val = 0 ∨ (i 1).val = 1 ∨ (i 1).val = 2 := by have h : (i 1).val < 3 := (i 1).isLt; omega
  rcases hs with h | h | h
  · exact .inl ⟨.z (i 0) 1, mem_cset.mpr ⟨rfl, h⟩⟩
  · exact .inl ⟨.z (i 0) 2, mem_cset.mpr ⟨rfl, h⟩⟩
  · exact .inr ⟨i 0, mem_cset.mpr ⟨rfl, h⟩⟩

theorem slots_back (c : Dev nD) :
    iprop(bigSep Finset.univ (fun t => (cLoc c ↦[srcC t]{fullShare} (CA m c : Buf (Elt F) (cLoc c)) : sProp 𝕄)) ∗ cP c 0 2 (CR m c) ∗ cP c 1 2 (CR m c) ∗ cP c 2 2 (CR m c) ∗ cP c 3 2 (CR m c))
      ⊢ iprop(∃ f : Buf (Elt F) (cLoc c), cLoc c ↦{fullShare} f) := by
  have e : (iprop(cP c 0 2 (CR m c) ∗ cP c 1 2 (CR m c) ∗ cP c 2 2 (CR m c) ∗ cP c 3 2 (CR m c)) : sProp 𝕄)
      = cLoc c ↦[Finset.univ.biUnion fun p : Fin 4 => cset p 2]{fullShare} (CR m c : Buf (Elt F) (cLoc c)) := by
    rw [pointsTo_biUnion _ _ fun p _ p' _ h => cset_disjoint fun e => h (Prod.ext_iff.mp e).1,
      bigSep_univ_eq_bigSepL [(0 : Fin 4), 1, 2, 3] (by decide) (by decide), bigSepL_cons_cons, bigSepL_cons_cons, bigSepL_cons_cons, bigSepL_singleton]
    rfl
  rw [e, ← pointsTo_biUnion _ _ fun t _ t' _ h => srcC_disjoint t t' h]
  refine (pointsTo_join last_disjoint).trans ?_
  rw [slots_univ]
  iintro H
  iexists _
  iexact H

/-- The end: the operand whole, the landing buffer whole, the semaphores at zero. -/
theorem end_split (c : Dev nD) :
    iprop(bigSep Finset.univ (fun t => iprop(gone m c t ∗ came c t)) ∗ aR m c ∗ cP c 0 2 (CR m c) ∗ cP c 1 2 (CR m c) ∗ cP c 2 2 (CR m c) ∗ cP c 3 2 (CR m c))
      ⊢ iprop(bigSep Finset.univ (fun t => (semVal (cell c (.s t)) 0 : sProp 𝕄)) ∗ bigSep Finset.univ (fun t => semVal (cell c (.r t)) 0)
          ∗ aW m c ∗ ∃ f : Buf (Elt F) (cLoc c), cLoc c ↦{fullShare} f) := by
  have e : bigSep Finset.univ (fun t => iprop(gone m c t ∗ came c t))
      ⊢ iprop((bigSep Finset.univ (fun t => (semVal (cell c (.s t)) 0 : sProp 𝕄))
          ∗ bigSep Finset.univ (fun t => (aLoc c ↦[srcA c t]{fullShare} (aV m c : Buf (Elt F) (aLoc c)) : sProp 𝕄))
          ∗ bigSep Finset.univ (fun t => (cLoc c ↦[srcC t]{fullShare} (CA m c : Buf (Elt F) (cLoc c)) : sProp 𝕄)))
        ∗ bigSep Finset.univ (fun t => (semVal (cell c (.r t)) 0 : sProp 𝕄))) := by
    unfold gone came
    rw [← bigSep_sep' _ _ _, ← bigSep_sep' _ _ _, ← bigSep_sep' _ _ _]
    exact bigSep_mono fun t _ => sep_mono_left (sep_mono_right (bank_eq m c t))
  iintro ⟨H, HR, HC⟩
  ihave H' := e $$ H
  icases H' with ⟨⟨H1, H2, H3⟩, H4⟩
  isplitl [H1]; · iexact H1
  isplitl [H4]; · iexact H4
  isplitl [H2 HR]
  · iapply (operand_eq m c).2
    isplitl [HR] <;> iassumption
  iapply (slots_back m c)
  isplitl [H3] <;> iassumption

end Cert.RingProof

end
-- ==== Proof.Launch.lean ====
/-
# The run

The pipeline's proof data, its body obligation, and the run of the whole program from any memory whose semaphores are at
zero: every fair execution ends, with the arguments unchanged, the result normalized, and every semaphore at zero.
-/
module

public import proofs.«01_k».proof.Proof.Ends
public import proofs.«01_k».proof.Proof.Gen.KernelIdeal.Points
public import Idealize.ShloMosaic.Lib.Pipeline.CollectiveSegs

@[expose] public section

set_option maxRecDepth 16384

noncomputable section

namespace Cert.RingProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device brings into the region. -/
def start (c : Dev nD) : sProp 𝕄 :=
  iprop((∃ K, Inv m K) ∗ atBar c ∗ bigSep Finset.univ (fun t => iprop(ready m c t ∗ expected c t)) ∗ semVal ((c : Thread nD τ), .dma locS) 0 ∗ aR m c)

/-- A buffer at some contents. -/
abbrev anyC (c : Dev nD) : sProp 𝕄 := iprop(∃ f : Buf (Elt F) (cLoc c), cLoc c ↦{fullShare} f)
abbrev anyL (c : Dev nD) : sProp 𝕄 := iprop(∃ f : Buf (Elt F) (lLoc c), lLoc c ↦{fullShare} f)

/-- Before the body, and after it. -/
def Φ₀ (c : Dev nD) : sProp 𝕄 := iprop(start m c ∗ anyC (F := F) c ∗ anyL (F := F) c)
def Φ₁ (c : Dev nD) : sProp 𝕄 :=
  iprop((semVal (cell c .bar) 0 ∗ aW m c)
    ∗ (bigSep Finset.univ (fun t => semVal (cell c (.s t)) 0) ∗ bigSep Finset.univ (fun t => semVal (cell c (.r t)) 0) ∗ semVal ((c : Thread nD τ), .dma locS) 0)
    ∗ anyC (F := F) c ∗ anyL (F := F) c)

def dats (_ : Fin 1) (c : Dev nD) : Dat τ (Elt F) Unit ℕ UU ℕ cfg0 c where
  A w := m ((cfg0.win w).arr.view.loc (c : Thread nD τ))
  after w _ := match w with
    | ⟨0, _⟩ => gV m c
    | ⟨1, _⟩ => NY m c
  Φ t := match t with
    | ⟨0, _⟩ => Φ₀ m c
    | ⟨_ + 1, _⟩ => Φ₁ m c
  q _ := fullShare
  owed t := match t with
    | ⟨0, _⟩ => owe₀ c
    | ⟨_ + 1, _⟩ => 0

/-! ## The body obligation -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at contents `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- The staged scale is the scale. -/
theorem block_g (c : Dev nD) : (dats m 0 c).blockOf 0 t0_0 = gV m c := by
  unfold Dat.blockOf
  funext i
  show m (gLoc c) _ = m (gLoc c) _
  congr 1
  funext a
  refine Fin.ext ?_
  match a with
  | 0 => show 0 + 1 * (i 0).val = (i 0).val; omega

theorem before_g (c : Dev nD) (d) : (dats m 0 c).before 0 t0_0 d = gV m c := by
  unfold Dat.before
  rw [if_pos (fetch0_0 t0_0)]
  exact block_g m c

def obIn (c : Dev nD) : sProp 𝕄 :=
  iprop(Φ₀ m c ∗ (dats m 0 c).owesAt () t0_0.castSucc ∗ (∃ d, holds c cc0_stg0_0 ((dats m 0 c).before 0 t0_0 d)) ∗ (∃ d, holds c cc0_stg1_0 ((dats m 0 c).before 1 t0_0 d)))
def obOut (c : Dev nD) : sProp 𝕄 :=
  iprop(Φ₁ m c ∗ (dats m 0 c).owesAt () t0_0.succ ∗ holds c cc0_stg0_0 (gV m c) ∗ holds c cc0_stg1_0 (NY m c))

theorem obIn_elim (c : Dev nD) : obIn m c ⊢ iprop((∃ K, Inv m K) ∗ bodyIn m c) := by
  unfold obIn Φ₀ start bodyIn Dat.owesAt Pipeline.owesWithin places Lc
  rw [show (dats m 0 c).owed t0_0.castSucc = owe₀ c from rfl]
  iintro ⟨⟨⟨HI, HB, HT, Hl, HA⟩, HC, HL⟩, ⟨%W, -, HO⟩, ⟨%d0, %g0, %e0, HG⟩, ⟨%d1, %g1, %e1, HY⟩⟩
  have hg : g0 = gV m c := e0.trans (before_g m c d0)
  subst hg
  ihave HC' := (places_c (F := F) c) $$ HC
  ihave HY' := (places_o (F := F) c) $$ [HY]
  · iexists g1; iexact HY
  icases HY' with ⟨⟨HX, HYp⟩, O0, O1, O2, O3⟩
  isplitl [HI]; · iexact HI
  isplitl [HO]; · iexists W; iexact HO
  isplitl [HB]; · iexact HB
  isplitl [HC' HX HYp]
  · isplitl [HC']; · iexact HC'
    isplitl [HX] <;> iassumption
  isplitl [HT]; · iexact HT
  isplitl [HL Hl HA]
  · isplitl [HL]; · iexact HL
    isplitl [Hl] <;> iassumption
  isplitl [O0]; · iexact O0
  isplitl [O1]; · iexact O1
  isplitl [O2]; · iexact O2
  isplitl [O3]; · iexact O3
  iexact HG

theorem obOut_intro (c : Dev nD) : bodyOut m c ⊢ obOut m c := by
  unfold obOut Φ₁ bodyOut Dat.owesAt Pipeline.owesWithin Lc
  rw [show (dats m 0 c).owed t0_0.succ = 0 from rfl]
  iintro ⟨HS, Hz, ⟨HL, Hl, HA⟩, HC, HG, HN⟩
  ihave HS' := (St_elim m c) $$ HS
  icases HS' with ⟨⟨%W, HO⟩, HS⟩
  ihave HE := (end_split m c) $$ [HS HA HC]
  · isplitl [HS]; · iexact HS
    isplitl [HA] <;> iassumption
  icases HE with ⟨H1, H2, HA, HC⟩
  isplitl [Hz H1 H2 Hl HA HC HL]
  · isplitl [Hz HA]
    · isplitl [Hz] <;> iassumption
    isplitl [H1 H2 Hl]
    · isplitl [H1]; · iexact H1
      isplitl [H2] <;> iassumption
    isplitl [HC] <;> iassumption
  isplitl [HO]
  · iexists W
    isplitr; · ipureintro; exact fun _ _ => Or.inl trivial
    iexact HO
  isplitl [HG]
  · iexists _; isplitr; · (ipureintro; rfl)
    iexact HG
  iexists _; isplitr; · (ipureintro; rfl)
  iexact HN

theorem body_run (c : Dev nD) : obIn m c ⊢ WP c (onBufs (cc0_body (F := F))) (fun _ => obOut m c) := by
  iintro H
  ihave H' := (obIn_elim m c) $$ H
  icases H' with ⟨⟨%K, #HI⟩, H⟩
  iapply (run_body m K c (Kt := fun _ => obOut m c)) $$ HI H
  iintro H
  iapply (obOut_intro m c)
  iexact H

theorem body_obligation (c : Dev nD) : BodyObligation (dats m 0 c) (defs₀ (F := F)) 𝒱₀ () Set.univ := fun t => by
  rw [fin_N0 t, bigSep_W0, bigSep_W0]
  simp only [owns_whole]
  exact body_run m c

/-! ## What the launch theorem asks -/

theorem share_full (c : Dev nD) (w : Fin cfg0.W) : (dats m 0 c).share w = fullShare := by unfold Dat.share; split <;> rfl

theorem for_ready (c : Dev nD) (t : T) : iprop(forT (F := F) c t ∗ cred (tallyAt (cell c (.r t)) () (N t)) ∗ (aLoc c ↦[srcA c t]{fullShare} (aV m c : Buf (Elt F) (aLoc c))))
    ⊢ iprop(ready m c t ∗ expected c t) := by
  unfold forT ready expected
  rw [src_eq]
  iintro ⟨⟨H1, H2, H3, H4⟩, Hc, Hs⟩
  isplitr [H4 Hc]
  · isplitl [H1]; · iexact H1
    isplitl [H2]; · iexact H2
    isplitl [H3] <;> iassumption
  isplitl [Hc] <;> iassumption

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(start m c ∗ emp) := by
  have hT : iprop(bigSep Finset.univ (forT (F := F) c) ∗ bigSep Finset.univ (fun t => (cred (tallyAt (cell c (.r t)) () (N t)) : sProp 𝕄))
      ∗ bigSep Finset.univ fun t => (aLoc c ↦[srcA c t]{fullShare} (aV m c : Buf (Elt F) (aLoc c)) : sProp 𝕄))
      ⊢ bigSep Finset.univ fun t => iprop(ready m c t ∗ expected c t) := by
    rw [← bigSep_sep' _ _ _, ← bigSep_sep' _ _ _]
    exact bigSep_mono fun t _ => for_ready m c t
  rw [Pipeline.unscopedRestP_none, unscopedRest0_eq]
  unfold G' own start atBar barToks Inv
  iintro ⟨HA, Hlev, Hcr, -, ⟨%K, HR⟩, ⟨B0, B1, B2, B3⟩, Hat, HF, Hl⟩
  ihave Hc := (creds (F := F) c) $$ Hcr
  icases Hc with ⟨Hcb, Hcr⟩
  ihave HA' := (show (((c : Thread nD τ).loc main_arg0 ↦{fullShare} m ((c : Thread nD τ).loc main_arg0)) : sProp 𝕄) ⊢ _ from (operand_eq m c).1) $$ HA
  icases HA' with ⟨HA, HS⟩
  ihave HT := hT $$ [HF Hcr HS]
  · isplitl [HF]; · iexact HF
    isplitl [Hcr] <;> iassumption
  imodintro
  isplitl
  · isplitl [HR Hlev]
    · iexists K
      isplitl [HR] <;> iassumption
    isplitl [B0 B1 B2 B3 Hat Hcb]
    · isplitl [B0]; · iexact B0
      isplitl [B1]; · iexact B1
      isplitl [B2]; · iexact B2
      isplitl [B3]; · iexact B3
      isplitl [Hat] <;> iassumption
    isplitl [HT]; · iexact HT
    isplitl [Hl] <;> iassumption
  iempintro

theorem region_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HC, HL⟩
  isplitl [Hs]; · iexact Hs
  isplitl [HC] <;> iassumption

theorem region_out (c : Dev nD) :
    (dats m 0 c).Φ (Fin.last cfg0.N) ⊢ iprop((unscopedSems0 c ∗ aW m c) ∗ Pipeline.ownSems0 osem c ∗ Pipeline.scopedRest cfg0.spec c) := by
  rw [show (dats m 0 c).Φ (Fin.last cfg0.N) = Φ₁ m c from rfl, scopedRest0_eq, ownSems_eq, unscoped_eq]
  unfold Φ₁
  exact Entails.refl _

theorem owe₀_pos {c : Dev nD} {g : GSem nD τ sig} {u : Unit} (h : 0 < owe₀ c g u) : ∃ d k, g = cell d k ∧ 0 < kLv (some k) := by
  by_contra hg
  have hb : ∀ d, (tallyAt (cell d .bar) () 1 : CellTallies nD τ sig Unit) g u = 0 := fun d => by
    rw [tallyAt_apply]
    exact if_neg fun h' => hg ⟨d, .bar, h'.1, Nat.one_pos⟩
  have ho : owe 0 c g u = 0 := by
    by_contra h0
    obtain ⟨t, -, e⟩ := owe_pos (Nat.pos_of_ne_zero h0)
    exact hg ⟨_, _, e, Nat.succ_pos _⟩
  unfold owe₀ owe₁ owe₂ owe₃ at h
  simp only [Pi.add_apply, Finsupp.add_apply] at h
  rw [hb, hb, hb, hb, ho] at h
  exact absurd h (lt_irrefl _)

/-- The pipeline's own semaphores lie below every cell. -/
theorem mayWait_low (c : Dev nD) (sm : SemLoc sig) (h : cls sm = none) (O : CellTallies nD τ sig Unit) (hO : O = owe₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := owe₀_pos hg; rw [L_tc]; exact Finset.mem_singleton_self _)
      (fun p hp => by rw [Finset.mem_singleton.mp hp]; show kLv (cls sm) ≤ 0; rw [h]; exact le_rfl)
      (fun g u hg => by obtain ⟨d, k, rfl, hk⟩ := owe₀_pos hg; rw [lv_cell]; exact hk)
  · rw [MayWait_zero]
    iintro -
    iempintro

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide +kernel) _ (by
      rcases t with ⟨_ | _, ht⟩
      · exact Or.inl rfl
      · exact Or.inr rfl)

/-! ## The run -/

def u₀ : UU := (initOf (Pipeline.cells cfgs cellOf_inj) (Pipeline.launchToks cfgs cellOf_inj), (initOf allCells allToks, 1))

omit [FloatOps F] in
theorem own_halves (a : UR sig nD τ) (b : UB) : (ownU ((a, (b, 1)) : UU) : sProp 𝕄) ⊢ iprop(BI.own (EP a) ∗ BI.own (ER b)) := by
  have h := Prod.mk_mem_op (URA.mem_op_one a) (URA.mem_one_op (b, (1 : Counters)))
  exact BI.own_op_elim ((uEmb (nD := nD) (sig := sig) (Ix := Unit) (Val := Elt F) (Name := ℕ) (U := UU) (Lvl := ℕ)).toEmb.op_of_mem h)

theorem fund : (ownU u₀ : sProp 𝕄) ⊢ |={Set.univ}=> iprop(BI.own (EP (initOf (Pipeline.cells cfgs cellOf_inj) (Pipeline.launchToks cfgs cellOf_inj)))
    ∗ bigSep Finset.univ (G m)) := by
  unfold u₀
  iintro Hu
  ihave H := (own_halves (F := F) _ _) $$ Hu
  icases H with ⟨HP, HX⟩
  imod (fund_cells m) $$ HX with HG
  imodintro
  isplitl [HP] <;> iassumption

theorem read_end (c : Dev nD) (s' : Phys nD τ sig (Elt F)) : iprop((unscopedSems0 c ∗ aW m c) ∗ emp ∗ SI s')
    ⊢ |={Set.univ}=> (iprop(⌜(∀ sm : SemLoc sig, sm.isScoped .tc = false → s'.mem.sem ((c.tc : Thread nD τ), sm) = 0) ∧ s'.mem.mem (aLoc c) = m (aLoc c)⌝ ∗ SI s') : sProp 𝕄) := by
  iintro ⟨⟨Hu, HA⟩, -, HSI⟩
  ihave HA' := (pointsTo_read_all (I := Unit) Finset.univ (fun _ => aLoc c) (fun _ => m (aLoc c)) s') $$ [HA HSI]
  · isplitl [HA]
    · rw [bigSep_univ_eq_bigSepL [()] (by decide) (by decide), bigSepL_singleton]; iexact HA
    iexact HSI
  icases HA' with ⟨%hA, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hA () (Finset.mem_univ _)⟩
  iexact HSI

/-- The result array at the end: its one block, as normalized. -/
theorem final_out (c : Dev nD) : (dats m 0 c).arrAt 1 cfg0.N = NY m c := by
  rw [show cfg0.N = t0_0.val + 1 from rfl, (dats m 0 c).arrAt_succ (1 : Fin 2) t0_0, if_pos (flush0_1 _)]
  exact Memref.write_access_unit_zero_univ (Elt F) main_v1 (by decide) _ _ _

theorem run_main : θ_run defs (onTc (τ := τ) (main (F := F))) ⟨m, fun _ => 0, ρ⟩ (fun r =>
    (∀ c : Dev nD, r.2.mem (aLoc c) = m (aLoc c) ∧ r.2.mem (gLoc c) = m (gLoc c) ∧ r.2.mem ((c : Thread nD τ).loc main_v1) = NY m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀) (hu₀ := fund m) (hglob := glob m)
    (hA := fun _ _ => rfl) (hpf := fun _ k => k.elim0)
    (X := start m) (Y := fun c => iprop(unscopedSems0 c ∗ aW m c)) (Z := fun _ => iprop(emp))
    (hX := start_intro m ρ) (hin := region_in m) (hout := region_out m)
    (QY := fun c s => (∀ sm : SemLoc sig, sm.isScoped .tc = false → s.sem ((c.tc : Thread nD τ), sm) = 0) ∧ s.mem (aLoc c) = m (aLoc c))
    (hY := read_end m)
    (hQ := fun _ h hs => ⟨fun c => ⟨(h c).2.2.2, ((h c).1 0).trans ((dats m 0 c).arrAt_in 0 rfl _), ((h c).1 1).trans (final_out m c)⟩,
      sem_eq_zero hs fun c => (h c).2.2.1⟩)

end Cert.RingProof

end
-- ==== Proof.Value.lean ====
/-
# The values

Over the extended reals: the ring's running sums add up to the sum over the four ring places, the kernel's
normalization of a row is the reference's, and so each device's result is its block of the reference's result.
-/
module

public import proofs.«01_k».proof.Proof.Mesh
public import proofs.«01_k».proof.Proof.Gen.ReferenceIdeal.Run
public import Idealize.ShloMosaic.Lib.Layout
public import Idealize.ShloMosaic.Lib.Pointwise

@[expose] public section

set_option maxRecDepth 16384

noncomputable section

namespace Cert.RingProof

open Idealize.ShloMosaic Idealize.ShloMosaic.TcCoe

/-! ## One element -/

/-- The mean's divisor and the small constant, as the extended reals their patterns denote. -/
def width : EReal := Ideal.ofBits .f32 0x45000000#32
def eps : EReal := Ideal.ofBits .f32 0x358637BD#32

theorem width_eq : width = ((2048 : ℝ) : EReal) := by
  simp [width, Ideal.ofBits, Ideal.ieee, -EReal.coe_mul]; norm_num

theorem eps_pos : 0 < eps := by
  simp [eps, Ideal.ofBits, Ideal.ieee, -EReal.coe_mul]

theorem square_nonneg (y : EReal) : 0 ≤ y * y := by
  rcases le_total 0 y with h | h
  · exact EReal.mul_nonneg h h
  · rw [← neg_mul_neg]
    exact EReal.mul_nonneg (EReal.neg_nonneg.mpr h) (EReal.neg_nonneg.mpr h)

/-- What stands under the root: the mean of a row's squares plus the small constant. -/
def level (f : Fin 2048 → EReal) : EReal := Ideal.div (∑ k, f k * f k) width + eps

theorem level_pos (f : Fin 2048 → EReal) : 0 < level f := by
  have hs : 0 ≤ ∑ k, f k * f k := Finset.sum_nonneg fun k _ => square_nonneg _
  have hd : 0 ≤ Ideal.div (∑ k, f k * f k) width := by
    rw [width_eq, Ideal.div_coe (by norm_num)]
    exact EReal.mul_nonneg hs (EReal.coe_nonneg.mpr (by norm_num))
  exact lt_of_lt_of_le eps_pos (le_add_of_nonneg_left hd)

/-- Above zero, a product with the inverse root is the quotient by the root. -/
theorem mul_rsqrt (y : EReal) {v : EReal} (h : 0 < v) : y * Ideal.rsqrt v = Ideal.div y (Ideal.sqrt v) := by
  induction v using EReal.rec with
  | bot => exact absurd h (by simp)
  | top => simp [Ideal.div]
  | coe r =>
    have hr : 0 < r := EReal.coe_pos.mp h
    have h1 : ¬ r < 0 := not_lt.mpr hr.le
    have h2 : Real.sqrt r ≠ 0 := (Real.sqrt_pos.mpr hr).ne'
    rw [Ideal.rsqrt_coe, Ideal.sqrt_coe, if_neg h1, if_neg h1, if_neg hr.ne', Ideal.div_coe h2, one_div]

/-- An entry of a normalized row. -/
def normed (f g : Fin 2048 → EReal) (l : Fin 2048) : EReal := Ideal.div (f l) (Ideal.sqrt (level f)) * g l

/-! ## The kernel's row -/

section Kernel
open Cert.KernelIdeal Cert.KernelIdeal.Gen

theorem pay_normed (y : FVec Ideal S512x2048 .f32) (g : FVec Ideal S2048 .f32) (r : Fin 512) (l : Fin 2048) :
    k0_pay14 (F := Ideal) y g (ix2 r l) = normed (fun k => y (ix2 r k)) (fun k => g (ix1 k)) l := by
  have h := mul_rsqrt (y (ix2 r l)) (level_pos fun k => y (ix2 r k))
  unfold normed
  rw [← h]
  unfold level width eps
  pointwise [k0_pay14]

variable (m : (ℓ : Loc nD τ sig) → Buf (Elt Ideal) ℓ)

/-- The ring's sum, in whatever order it was taken. -/
theorem ring_sum (q z : Fin 4) (r j : ℕ) : av m 2 q z r j = ∑ d : Fin 4, (tv m q d z r j : EReal) := by
  have h : ∀ f : Fin 4 → EReal, f (z + 1) + f (z + 2) + f (z + 3) + f z = ∑ d, f d := fun f => by
    rw [Fin.sum_univ_four]
    fin_cases z
    · show f 1 + f 2 + f 3 + f 0 = _; ac_rfl
    · show f 2 + f 3 + f 0 + f 1 = _; ac_rfl
    · show f 3 + f 0 + f 1 + f 2 = _; ac_rfl
    · rfl
  refine Eq.trans ?_ (h fun d => tv m q d z r j)
  simp only [av, rv, Ideal.addf_def]
  fin_cases z <;> rfl

end Kernel

/-! ## The reference's row -/

section Reference
open Cert.ReferenceIdeal Cert.ReferenceIdeal.Gen

/-- The reference's result, of its arguments. -/
def refOf (X : FVec Ideal S4x8192x2048 .f32) (g : FVec Ideal S2048 .f32) : FVec Ideal S8192x2048 .f32 :=
  have s := Host.reduceAdd X (constant S_ .f32 0x00000000#32) reducesTo_S4x8192x2048_S8192x2048_d0 h_S_
  mulf (Host.divf s (broadcastInDim S8192x2048 ![0, 1] bcast_S8192x1_S8192x2048_0_1 (Host.sqrt (addf
      (Host.divf (broadcastInDim S8192x1 ![0] bcast_S8192_S8192x1_0 (Host.reduceAdd (mulf s s) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem ref_normed (X : FVec Ideal S4x8192x2048 .f32) (g : FVec Ideal S2048 .f32) (R : Fin 8192) (l : Fin 2048) :
    refOf X g (ix2 R l) = normed (fun k => ∑ d : Fin 4, X (ix3 d R k)) (fun k => g (ix1 k)) l := by
  unfold normed level width eps
  pointwise [refOf]

end Reference

/-! ## The two together -/

section Blocks
open Cert.KernelIdeal Cert.KernelIdeal.Gen

variable (m : (ℓ : Loc nD τ sig) → Buf (Elt Ideal) ℓ)

/-- Device `c`'s part of the operand, and of the result. -/
abbrev partA (c : Dev nD) (X : (⟨3, ![4, 8192, 2048]⟩ : Shape).Idx → EReal) : S1x8192x2048.Idx → EReal :=
  Layout.blockN ⟨3, ![1, 8192, 2048]⟩ ⟨3, ![4, 8192, 2048]⟩ (Layout.meshBlock [2, 2, 4] ![[2], [], []] c) X
abbrev partO (c : Dev nD) (v : (⟨2, ![8192, 2048]⟩ : Shape).Idx → EReal) : S2048x2048.Idx → EReal :=
  Layout.blockN ⟨2, ![2048, 2048]⟩ ⟨2, ![8192, 2048]⟩ (Layout.meshBlock [2, 2, 4] ![[2], []] c) v

theorem place_eq (c : Dev nD) : Layout.meshLin [2, 2, 4] c.val [2] = (devZ c).val := by
  show c.val / 1 % 4 * 1 + 0 = c.val % 4
  omega

theorem partA_apply (c : Dev nD) (X : (⟨3, ![4, 8192, 2048]⟩ : Shape).Idx → EReal) (a : Fin 1) (r : Fin 8192) (k : Fin 2048) :
    partA c X (ix3 a r k) = X (ix3 (devZ c) r k) := by
  refine congrArg X (funext fun b => Fin.ext ?_)
  match b with
  | 0 =>
    have e := place_eq c
    show Layout.meshLin [2, 2, 4] c.val [2] * 1 + a.val = (devZ c).val
    omega
  | 1 => show 0 * 8192 + r.val = r.val; omega
  | 2 => show 0 * 2048 + k.val = k.val; omega

theorem row_lt (z : Fin 4) {r : ℕ} (h : r < 2048) : 2048 * z.val + r < 8192 := by omega

theorem partO_apply (c : Dev nD) (v : (⟨2, ![8192, 2048]⟩ : Shape).Idx → EReal) (r k : Fin 2048) :
    partO c v (ix2 r k) = v (ix2 (⟨2048 * (devZ c).val + r.val, row_lt _ r.isLt⟩ : Fin 8192) k) := by
  refine congrArg v (funext fun b => Fin.ext ?_)
  match b with
  | 0 =>
    have e := place_eq c
    show Layout.meshLin [2, 2, 4] c.val [2] * 2048 + r.val = 2048 * (devZ c).val + r.val
    omega
  | 1 => show 0 * 2048 + k.val = k.val; omega

variable {X : (⟨3, ![4, 8192, 2048]⟩ : Shape).Idx → EReal} {g : S2048.Idx → EReal}

/-- The summed chunk is the reference's sum over the leading axis. -/
theorem chunk_eq (hA : ∀ c, m (aLoc c) = partA c X) (z : Fin 4) (r k : Fin 2048) :
    Y m z (ix2 r k) = ∑ d : Fin 4, X (ix3 d (⟨2048 * z.val + r.val, row_lt z r.isLt⟩ : Fin 8192) k) := by
  refine (ring_sum m (blk k.val) z r.val (k.val % 512)).trans (Finset.sum_congr rfl fun d _ => ?_)
  have hk : (512 * (blk k.val).val + k.val % 512) % 2048 = k.val := by
    have := k.isLt
    show (512 * (k.val / 512 % 4) + k.val % 512) % 2048 = k.val
    omega
  have hr : (2048 * z.val + r.val) % 8192 = 2048 * z.val + r.val := Nat.mod_eq_of_lt (row_lt z r.isLt)
  unfold tv aV
  rw [hA]
  refine (partA_apply (mk (blk k.val) d) X 0 _ _).trans (congrArg X ?_)
  rw [devZ_mk]
  exact congrArg₂ (ix3 d) (Fin.ext hr) (Fin.ext hk)

/-- A device's result is its block of the reference's. -/
theorem result_eq (hA : ∀ c, m (aLoc c) = partA c X) (hg : ∀ c, m (gLoc c) = g) (c : Dev nD) :
    NY m c = partO c (refOf X g) := by
  funext i
  obtain ⟨r, l, rfl⟩ : ∃ r l : Fin 2048, i = ix2 r l := ⟨i 0, i 1, eq_ix2 i⟩
  have hr := r.isLt
  refine (pay_normed _ _ _ _).trans ((congrArg₂ (fun f g => normed f g l) (funext fun k => ?_) (funext fun k => ?_)).trans
    ((partO_apply c _ r l).trans (ref_normed X g _ l)).symm)
  · refine (chunk_eq m hA (devZ c) (⟨512 * (r.val / 512) + r.val % 512, by omega⟩ : Fin 2048) k).trans ?_
    congr 1
    funext d
    congr 2
    exact Fin.ext (congrArg (2048 * (devZ c).val + ·) (Nat.div_add_mod _ _))
  · exact congrFun (hg c) _

end Blocks

end Cert.RingProof

end
-- ==== Proof.lean ====
/-
# The claims

The frames of the kernel at both float readings come from the one run, the reference's from its own; the value claim
puts the kernel's result beside the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- At any floats: the run, with what it says of the result left out. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.RingProof.run_main m ρ)

/-- The two printed programs have one text: their body tables agree label by label. -/
theorem bodies_eq : Cert.KernelIdeal.defs₀ (F := Bits) = Cert.Kernel.defs₀ (F := Bits) := by
  unfold Cert.Kernel.defs₀ Cert.KernelIdeal.defs₀
  refine congrArg Defs.onTc (funext fun l => funext fun a => ?_)
  match l, a with
  | 0, (t, s) => rfl

theorem defs_eq : Cert.KernelIdeal.defs (F := Bits) = Cert.Kernel.defs (F := Bits) :=
  congrArg (Pipeline.defs (Cert.KernelIdeal.pcfgs (F := Bits))) bodies_eq

theorem frame_kernel : Cert.quiescent_Kernel := fun m ρ _ => by
  have h := frame (F := Bits) m ρ
  rw [defs_eq] at h
  exact h

theorem frame_ideal : Cert.quiescent_KernelIdeal := fun m ρ _ => frame (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device ends with its block of the reference's result. -/
theorem value : Cert.algebraic_KernelIdeal_ReferenceIdeal := fun m ρ m' ρ' _ hargs =>
  ⟨_, (θ_run Cert.KernelIdeal.defs _ _).mono
      (fun _ h c => ⟨(h.1 c).2.2.trans (Cert.RingProof.result_eq m (fun c => (hargs c).1) (fun c => (hargs c).2) c),
        (h.1 c).1, (h.1 c).2.1⟩)
      (Cert.RingProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
